-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_normal_scales [hPre_normal_scales : Cert.Pre_normal_scales.Facts] (m : (ℓ : Loc Cert.KernelIdeal.nD Cert.KernelIdeal.τ Cert.KernelIdeal.sig) → Buf (Elt Ideal) ℓ) : Prop :=
  ∀ c : Dev Cert.KernelIdeal.nD,
    (Cert.Pre_normal_scales.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_normal_scales [hPre_normal_scales : Cert.Pre_normal_scales.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_normal_scales.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_normal_scales [hKernelIdeal : Cert.KernelIdeal.Facts] [hPre_normal_scales : Cert.Pre_normal_scales.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_normal_scales m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_normal_scales [hReferenceIdeal : Cert.ReferenceIdeal.Facts] [hPre_normal_scales : Cert.Pre_normal_scales.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_normal_scales m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_normal_scales [hKernelIdeal : Cert.KernelIdeal.Facts] [hReferenceIdeal : Cert.ReferenceIdeal.Facts] [hPre_normal_scales : Cert.Pre_normal_scales.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_normal_scales m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1_0) = v0 c
          ∧ r.2.mem ((c.tc : Thread Cert.ReferenceIdeal.nD Cert.ReferenceIdeal.τ).loc Cert.ReferenceIdeal.main_v1_1) = v1 c
          ∧ r.2.mem ((c.tc : Thread Cert.ReferenceIdeal.nD Cert.ReferenceIdeal.τ).loc Cert.ReferenceIdeal.main_v1_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_normal_scales : Cert.Pre_normal_scales.Facts),
    quiescent_Kernel (hKernel := hKernel)
    ∧ quiescent_KernelIdeal (hKernelIdeal := hKernelIdeal)
    ∧ quiescent_KernelIdeal_pre_normal_scales (hKernelIdeal := hKernelIdeal) (hPre_normal_scales := hPre_normal_scales)
    ∧ quiescent_ReferenceIdeal (hReferenceIdeal := hReferenceIdeal)
    ∧ quiescent_ReferenceIdeal_pre_normal_scales (hReferenceIdeal := hReferenceIdeal) (hPre_normal_scales := hPre_normal_scales)
    ∧ preserves_Kernel_KernelIdeal
    ∧ algebraic_KernelIdeal_ReferenceIdeal_pre_normal_scales (hKernelIdeal := hKernelIdeal) (hReferenceIdeal := hReferenceIdeal) (hPre_normal_scales := hPre_normal_scales)
-- ==== Pre_normal_scales.lean ====
abbrev S2x8192x5120 : Shape := ⟨3, ![2, 8192, 5120]⟩
abbrev S5120x8960 : Shape := ⟨2, ![5120, 8960]⟩
abbrev S20x35 : Shape := ⟨2, ![20, 35]⟩
abbrev S128x128x20x256 : Shape := ⟨4, ![128, 128, 20, 256]⟩
abbrev S_ : Shape := ⟨0, ![]⟩
abbrev S128x20 : Shape := ⟨2, ![128, 20]⟩

class Facts : Prop where
  bitsLt_bf16_f32 : FTy.bits .bf16 < FTy.bits .f32
  shapeCasts_S2x8192x5120_S128x128x20x256 : S2x8192x5120.ShapeCasts S128x128x20x256
  reducesTo_S128x128x20x256_S128x20_d1_3 : S128x128x20x256.ReducesTo [1, 3] S128x20
  h_S_ : 0 < S_.numel
  bcast_S_S128x20 : S_.BroadcastsInDim S128x20 (![] : Fin 0 → Fin S128x20.rank)

variable [Facts]

def fn {F : FTy → Type} [FloatOps F] (main_arg0 : FVec F S2x8192x5120 .bf16) (main_arg1 : FVec F S5120x8960 .fp8e4m3) (main_arg2 : FVec F S20x35 .f32) : IVec S128x20 1 :=
  let main_v0 : FVec F S2x8192x5120 .f32 := (extf .f32 · bitsLt_bf16_f32) main_arg0
  let main_v1 : FVec F S128x128x20x256 .f32 := shapeCast S128x128x20x256 main_v0 shapeCasts_S2x8192x5120_S128x128x20x256
  let main_v2 : FVec F S128x128x20x256 .f32 := Host.absf main_v1
  let main_cst : FVec F S_ .f32 := constant S_ .f32 0xFF800000#32
  let main_v3 : FVec F S128x20 .f32 := (fun x v => Host.reduce FloatOps.maximumf x v reducesTo_S128x128x20x256_S128x20_d1_3 h_S_) main_v2 main_cst
  let main_cst_0 : FVec F S_ .f32 := constant S_ .f32 0x3B124925#32
  let main_v4 : FVec F S128x20 .f32 := broadcastInDim S128x20 ![] bcast_S_S128x20 main_cst_0
  let main_v5 : FVec F S128x20 .f32 := mulf main_v3 main_v4
  let main_cst_1 : FVec F S_ .f32 := constant S_ .f32 0x00000000#32
  let main_v6 : FVec F S128x20 .f32 := broadcastInDim S128x20 ![] bcast_S_S128x20 main_cst_1
  let main_v7 : IVec S128x20 1 := cmpf .oeq main_v5 main_v6
  let main_cst_2 : FVec F S_ .f32 := constant S_ .f32 0x7F800000#32
  let main_v8 : FVec F S128x20 .f32 := broadcastInDim S128x20 ![] bcast_S_S128x20 main_cst_2
  let main_v9 : IVec S128x20 1 := cmpf .oeq main_v5 main_v8
  let main_v10 : IVec S128x20 1 := ori main_v7 main_v9
  let main_cst_3 : FVec F S_ .f32 := constant S_ .f32 0x00800000#32
  let main_v11 : FVec F S128x20 .f32 := broadcastInDim S128x20 ![] bcast_S_S128x20 main_cst_3
  let main_v12 : IVec S128x20 1 := cmpf .oge main_v5 main_v11
  let main_cst_4 : FVec F S_ .f32 := constant S_ .f32 0x7E800000#32
  let main_v13 : FVec F S128x20 .f32 := broadcastInDim S128x20 ![] bcast_S_S128x20 main_cst_4
  let main_v14 : IVec S128x20 1 := cmpf .olt main_v5 main_v13
  let main_v15 : IVec S128x20 1 := andi main_v12 main_v14
  let main_v16 : IVec S128x20 1 := ori main_v10 main_v15
  main_v16
-- ==== Kernel.lean ====
abbrev S2x8192x5120 : Shape := ⟨3, ![2, 8192, 5120]⟩
abbrev S5120x8960 : Shape := ⟨2, ![5120, 8960]⟩
abbrev S20x35 : Shape := ⟨2, ![20, 35]⟩
abbrev S16384x5120 : Shape := ⟨2, ![16384, 5120]⟩
abbrev S16384x8960 : Shape := ⟨2, ![16384, 8960]⟩
abbrev S128x20 : Shape := ⟨2, ![128, 20]⟩
abbrev S1024x1024 : Shape := ⟨2, ![1024, 1024]⟩
abbrev S5120x1792 : Shape := ⟨2, ![5120, 1792]⟩
abbrev S1024x1792 : Shape := ⟨2, ![1024, 1792]⟩
abbrev S8x20 : Shape := ⟨2, ![8, 20]⟩
abbrev S2x1024x5120 : Shape := ⟨3, ![2, 1024, 5120]⟩
abbrev S2x5120x256 : Shape := ⟨3, ![2, 5120, 256]⟩
abbrev S128x256 : Shape := ⟨2, ![128, 256]⟩
abbrev S16x256 : Shape := ⟨2, ![16, 256]⟩
abbrev S16x128 : Shape := ⟨2, ![16, 128]⟩
abbrev S1x16x128 : Shape := ⟨3, ![1, 16, 128]⟩
abbrev S1 : Shape := ⟨1, ![1]⟩
abbrev S1x1x1 : Shape := ⟨3, ![1, 1, 1]⟩
abbrev S1x1 : Shape := ⟨2, ![1, 1]⟩
abbrev S8x128 : Shape := ⟨2, ![8, 128]⟩
abbrev S1x1024x5120 : Shape := ⟨3, ![1, 1024, 5120]⟩
abbrev S1024x5120 : Shape := ⟨2, ![1024, 5120]⟩
abbrev S1x128x256 : Shape := ⟨3, ![1, 128, 256]⟩
abbrev S256x256 : Shape := ⟨2, ![256, 256]⟩
abbrev S1x256x256 : Shape := ⟨3, ![1, 256, 256]⟩
abbrev S1x5120x256 : Shape := ⟨3, ![1, 5120, 256]⟩
abbrev S5120x256 : Shape := ⟨2, ![5120, 256]⟩
abbrev S1024x256 : Shape := ⟨2, ![1024, 256]⟩

abbrev nBuf : Space → Nat
  | .hbm => 7
  | .vmem => 12
  | .smem => 1
  | _ => 0

abbrev bufTy : (tb : Table) → Fin (tcTables nBuf tb) → BufTy
  | .hbm, ⟨0, _⟩ => ⟨S2x8192x5120, .bf16⟩
  | .hbm, ⟨1, _⟩ => ⟨S5120x8960, .fp8e4m3⟩
  | .hbm, ⟨2, _⟩ => ⟨S20x35, .f32⟩
  | .hbm, ⟨3, _⟩ => ⟨S16384x5120, .bf16⟩
  | .hbm, ⟨4, _⟩ => ⟨S16384x8960, .bf16⟩
  | .hbm, ⟨5, _⟩ => ⟨S16384x5120, .fp8e4m3⟩
  | .hbm, ⟨6, _⟩ => ⟨S128x20, .f32⟩
  | .local _ .vmem, ⟨0, _⟩ => ⟨S1024x1024, .bf16⟩
  | .local _ .vmem, ⟨1, _⟩ => ⟨S1024x1024, .bf16⟩
  | .local _ .vmem, ⟨2, _⟩ => ⟨S5120x1792, .fp8e4m3⟩
  | .local _ .vmem, ⟨3, _⟩ => ⟨S5120x1792, .fp8e4m3⟩
  | .local _ .vmem, ⟨4, _⟩ => ⟨S1024x1792, .bf16⟩
  | .local _ .vmem, ⟨5, _⟩ => ⟨S1024x1792, .bf16⟩
  | .local _ .vmem, ⟨6, _⟩ => ⟨S1024x1024, .fp8e4m3⟩
  | .local _ .vmem, ⟨7, _⟩ => ⟨S1024x1024, .fp8e4m3⟩
  | .local _ .vmem, ⟨8, _⟩ => ⟨S8x20, .f32⟩
  | .local _ .vmem, ⟨9, _⟩ => ⟨S8x20, .f32⟩
  | .local _ .vmem, ⟨10, _⟩ => ⟨S2x1024x5120, .bf16⟩
  | .local _ .vmem, ⟨11, _⟩ => ⟨S2x5120x256, .bf16⟩
  | .local _ .smem, ⟨0, _⟩ => ⟨S20x35, .f32⟩
  | _, _ => ⟨S2x8192x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_stg2_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![17, 5], ![false, false]⟩

def k0_cond1 (i : grid0.Coords) : BitVec 1 :=
  let arg0 : BitVec 32 := BitVec.ofNat 32 (i 0).val
  let c16_i32 : BitVec 32 := 16#32
  let v0 : BitVec 1 := Scalar.cmpi .slt arg0 c16_i32
  let v1 : BitVec 32 := Scalar.extui v0
  let c0_i32 : BitVec 32 := 0#32
  let v2 : BitVec 1 := Scalar.cmpi .ne v1 c0_i32
  v2

def k0_mult1 (i : grid0.Coords) : BitVec 32 :=
  let arg1 : BitVec 32 := BitVec.ofNat 32 (i 1).val
  let c1024_i32 : BitVec 32 := 1024#32
  let v155 : BitVec 32 := Scalar.muli arg1 c1024_i32
  let c0_i32_33 : BitVec 32 := 0#32
  let v156 : BitVec 32 := Scalar.addi v155 c0_i32_33
  v156
def k0_off1 (i : grid0.Coords) : Fin 3 → Nat :=
  let arg0 : BitVec 32 := BitVec.ofNat 32 (i 0).val
  let c2_i32 : BitVec 32 := 2#32
  let c0_i32_2 : BitVec 32 := 0#32
  let v6 : BitVec 1 := Scalar.cmpi .eq c2_i32 c0_i32_2
  let c1_i32 : BitVec 32 := 1#32
  let v7 : BitVec 32 := Scalar.select v6 c1_i32 c2_i32
  let v8 : BitVec 32 := Scalar.remsi arg0 v7
  let c0_i32_4 : BitVec 32 := 0#32
  let v10 : BitVec 1 := Scalar.cmpi .slt v8 c0_i32_4
  let c0_i32_5 : BitVec 32 := 0#32
  let v11 : BitVec 1 := Scalar.cmpi .slt v7 c0_i32_5
  let v12 : BitVec 1 := Scalar.xori v10 v11
  let c0_i32_3 : BitVec 32 := 0#32
  let v9 : BitVec 1 := Scalar.cmpi .ne v8 c0_i32_3
  let v13 : BitVec 1 := Scalar.andi v12 v9
  let v14 : BitVec 32 := Scalar.addi v8 v7
  let v15 : BitVec 32 := Scalar.select v13 v14 v8
  let c0_i32_34 : BitVec 32 := 0#32
  let c0_i32_35 : BitVec 32 := 0#32
  ![v15.toNat, 0, 0]
def k0_off2 (i : grid0.Coords) (c0_i32_33 : BitVec 32) : Fin 2 → Nat :=
  let c0_36 : Index := 0#32
  let arg1 : BitVec 32 := BitVec.ofNat 32 (i 1).val
  let c1024_i32 : BitVec 32 := 1024#32
  let v155 : BitVec 32 := Scalar.muli arg1 c1024_i32
  let v156 : BitVec 32 := Scalar.addi v155 c0_i32_33
  let v157 : BitVec 32 := v156
  let v160 : Index := Scalar.indexCast v157
  ![0, v160.toNat]
def k0_off3 (i : grid0.Coords) (c0_i32_33 : BitVec 32) : Fin 3 → Nat :=
  let arg0 : BitVec 32 := BitVec.ofNat 32 (i 0).val
  let c2_i32 : BitVec 32 := 2#32
  let c0_i32_2 : BitVec 32 := 0#32
  let v6 : BitVec 1 := Scalar.cmpi .eq c2_i32 c0_i32_2
  let c1_i32 : BitVec 32 := 1#32
  let v7 : BitVec 32 := Scalar.select v6 c1_i32 c2_i32
  let v8 : BitVec 32 := Scalar.remsi arg0 v7
  let c0_i32_4 : BitVec 32 := 0#32
  let v10 : BitVec 1 := Scalar.cmpi .slt v8 c0_i32_4
  let c0_i32_5 : BitVec 32 := 0#32
  let v11 : BitVec 1 := Scalar.cmpi .slt v7 c0_i32_5
  let v12 : BitVec 1 := Scalar.xori v10 v11
  let c0_i32_3 : BitVec 32 := 0#32
  let v9 : BitVec 1 := Scalar.cmpi .ne v8 c0_i32_3
  let v13 : BitVec 1 := Scalar.andi v12 v9
  let v14 : BitVec 32 := Scalar.addi v8 v7
  let v15 : BitVec 32 := Scalar.select v13 v14 v8
  let c0_i32_34 : BitVec 32 := 0#32
  let arg1 : BitVec 32 := BitVec.ofNat 32 (i 1).val
  let c1024_i32 : BitVec 32 := 1024#32
  let v155 : BitVec 32 := Scalar.muli arg1 c1024_i32
  let v156 : BitVec 32 := Scalar.addi v155 c0_i32_33
  let v157 : BitVec 32 := v156
  let v160 : Index := Scalar.indexCast v157
  ![v15.toNat, 0, v160.toNat]
def k0_mult2 (i : grid0.Coords) : BitVec 32 :=
  let arg1 : BitVec 32 := BitVec.ofNat 32 (i 1).val
  let c1024_i32_72 : BitVec 32 := 1024#32
  let v299 : BitVec 32 := Scalar.muli arg1 c1024_i32_72
  let c256_i32 : BitVec 32 := 256#32
  let v300 : BitVec 32 := Scalar.addi v299 c256_i32
  v300
def k0_mult3 (i : grid0.Coords) : BitVec 32 :=
  let arg1 : BitVec 32 := BitVec.ofNat 32 (i 1).val
  let c1024_i32_111 : BitVec 32 := 1024#32
  let v443 : BitVec 32 := Scalar.muli arg1 c1024_i32_111
  let c512_i32 : BitVec 32 := 512#32
  let v444 : BitVec 32 := Scalar.addi v443 c512_i32
  v444
def k0_mult4 (i : grid0.Coords) : BitVec 32 :=
  let arg1 : BitVec 32 := BitVec.ofNat 32 (i 1).val
  let c1024_i32_149 : BitVec 32 := 1024#32
  let v587 : BitVec 32 := Scalar.muli arg1 c1024_i32_149
  let c768_i32 : BitVec 32 := 768#32
  let v588 : BitVec 32 := Scalar.addi v587 c768_i32
  v588
def k0_mult5 (i : grid0.Coords) : BitVec 32 :=
  let arg1 : BitVec 32 := BitVec.ofNat 32 (i 1).val
  let c1024_i32_188 : BitVec 32 := 1024#32
  let v731 : BitVec 32 := Scalar.muli arg1 c1024_i32_188
  let c0_i32_189 : BitVec 32 := 0#32
  let v732 : BitVec 32 := Scalar.addi v731 c0_i32_189
  v732
def k0_off4 (i : grid0.Coords) (c0_i32_189 : BitVec 32) : Fin 2 → Nat :=
  let c128_192 : Index := 128#32
  let arg1 : BitVec 32 := BitVec.ofNat 32 (i 1).val
  let c1024_i32_188 : BitVec 32 := 1024#32
  let v731 : BitVec 32 := Scalar.muli arg1 c1024_i32_188
  let v732 : BitVec 32 := Scalar.addi v731 c0_i32_189
  let v733 : BitVec 32 := v732
  let v736 : Index := Scalar.indexCast v733
  ![128, v736.toNat]
def k0_off5 (i : grid0.Coords) (c0_i32_189 : BitVec 32) : Fin 3 → Nat :=
  let arg0 : BitVec 32 := BitVec.ofNat 32 (i 0).val
  let c2_i32 : BitVec 32 := 2#32
  let c0_i32_2 : BitVec 32 := 0#32
  let v6 : BitVec 1 := Scalar.cmpi .eq c2_i32 c0_i32_2
  let c1_i32 : BitVec 32 := 1#32
  let v7 : BitVec 32 := Scalar.select v6 c1_i32 c2_i32
  let v8 : BitVec 32 := Scalar.remsi arg0 v7
  let c0_i32_4 : BitVec 32 := 0#32
  let v10 : BitVec 1 := Scalar.cmpi .slt v8 c0_i32_4
  let c0_i32_5 : BitVec 32 := 0#32
  let v11 : BitVec 1 := Scalar.cmpi .slt v7 c0_i32_5
  let v12 : BitVec 1 := Scalar.xori v10 v11
  let c0_i32_3 : BitVec 32 := 0#32
  let v9 : BitVec 1 := Scalar.cmpi .ne v8 c0_i32_3
  let v13 : BitVec 1 := Scalar.andi v12 v9
  let v14 : BitVec 32 := Scalar.addi v8 v7
  let v15 : BitVec 32 := Scalar.select v13 v14 v8
  let arg1 : BitVec 32 := BitVec.ofNat 32 (i 1).val
  let c1024_i32_188 : BitVec 32 := 1024#32
  let v731 : BitVec 32 := Scalar.muli arg1 c1024_i32_188
  let v732 : BitVec 32 := Scalar.addi v731 c0_i32_189
  let v733 : BitVec 32 := v732
  let v736 : Index := Scalar.indexCast v733
  ![v15.toNat, 128, v736.toNat]
def k0_mult6 (i : grid0.Coords) : BitVec 32 :=
  let arg1 : BitVec 32 := BitVec.ofNat 32 (i 1).val
  let c1024_i32_229 : BitVec 32 := 1024#32
  let v875 : BitVec 32 := Scalar.muli arg1 c1024_i32_229
  let c256_i32_230 : BitVec 32 := 256#32
  let v876 : BitVec 32 := Scalar.addi v875 c256_i32_230
  v876
def k0_mult7 (i : grid0.Coords) : BitVec 32 :=
  let arg1 : BitVec 32 := BitVec.ofNat 32 (i 1).val
  let c1024_i32_270 : BitVec 32 := 1024#32
  let v1019 : BitVec 32 := Scalar.muli arg1 c1024_i32_270
  let c512_i32_271 : BitVec 32 := 512#32
  let v1020 : BitVec 32 := Scalar.addi v1019 c512_i32_271
  v1020
def k0_mult8 (i : grid0.Coords) : BitVec 32 :=
  let arg1 : BitVec 32 := BitVec.ofNat 32 (i 1).val
  let c1024_i32_311 : BitVec 32 := 1024#32
  let v1163 : BitVec 32 := Scalar.muli arg1 c1024_i32_311
  let c768_i32_312 : BitVec 32 := 768#32
  let v1164 : BitVec 32 := Scalar.addi v1163 c768_i32_312
  v1164
def k0_mult9 (i : grid0.Coords) : BitVec 32 :=
  let arg1 : BitVec 32 := BitVec.ofNat 32 (i 1).val
  let c1024_i32_352 : BitVec 32 := 1024#32
  let v1307 : BitVec 32 := Scalar.muli arg1 c1024_i32_352
  let c0_i32_353 : BitVec 32 := 0#32
  let v1308 : BitVec 32 := Scalar.addi v1307 c0_i32_353
  v1308
def k0_off6 (i : grid0.Coords) (c0_i32_353 : BitVec 32) : Fin 2 → Nat :=
  let c256_356 : Index := 256#32
  let arg1 : BitVec 32 := BitVec.ofNat 32 (i 1).val
  let c1024_i32_352 : BitVec 32 := 1024#32
  let v1307 : BitVec 32 := Scalar.muli arg1 c1024_i32_352
  let v1308 : BitVec 32 := Scalar.addi v1307 c0_i32_353
  let v1309 : BitVec 32 := v1308
  let v1312 : Index := Scalar.indexCast v1309
  ![256, v1312.toNat]
def k0_off7 (i : grid0.Coords) (c0_i32_353 : BitVec 32) : Fin 3 → Nat :=
  let arg0 : BitVec 32 := BitVec.ofNat 32 (i 0).val
  let c2_i32 : BitVec 32 := 2#32
  let c0_i32_2 : BitVec 32 := 0#32
  let v6 : BitVec 1 := Scalar.cmpi .eq c2_i32 c0_i32_2
  let c1_i32 : BitVec 32 := 1#32
  let v7 : BitVec 32 := Scalar.select v6 c1_i32 c2_i32
  let v8 : BitVec 32 := Scalar.remsi arg0 v7
  let c0_i32_4 : BitVec 32 := 0#32
  let v10 : BitVec 1 := Scalar.cmpi .slt v8 c0_i32_4
  let c0_i32_5 : BitVec 32 := 0#32
  let v11 : BitVec 1 := Scalar.cmpi .slt v7 c0_i32_5
  let v12 : BitVec 1 := Scalar.xori v10 v11
  let c0_i32_3 : BitVec 32 := 0#32
  let v9 : BitVec 1 := Scalar.cmpi .ne v8 c0_i32_3
  let v13 : BitVec 1 := Scalar.andi v12 v9
  let v14 : BitVec 32 := Scalar.addi v8 v7
  let v15 : BitVec 32 := Scalar.select v13 v14 v8
  let arg1 : BitVec 32 := BitVec.ofNat 32 (i 1).val
  let c1024_i32_352 : BitVec 32 := 1024#32
  let v1307 : BitVec 32 := Scalar.muli arg1 c1024_i32_352
  let v1308 : BitVec 32 := Scalar.addi v1307 c0_i32_353
  let v1309 : BitVec 32 := v1308
  let v1312 : Index := Scalar.indexCast v1309
  ![v15.toNat, 256, v1312.toNat]
def k0_mult10 (i : grid0.Coords) : BitVec 32 :=
  let arg1 : BitVec 32 := BitVec.ofNat 32 (i 1).val
  let c1024_i32_393 : BitVec 32 := 1024#32
  let v1451 : BitVec 32 := Scalar.muli arg1 c1024_i32_393
  let c256_i32_394 : BitVec 32 := 256#32
  let v1452 : BitVec 32 := Scalar.addi v1451 c256_i32_394
  v1452
def k0_mult11 (i : grid0.Coords) : BitVec 32 :=
  let arg1 : BitVec 32 := BitVec.ofNat 32 (i 1).val
  let c1024_i32_434 : BitVec 32 := 1024#32
  let v1595 : BitVec 32 := Scalar.muli arg1 c1024_i32_434
  let c512_i32_435 : BitVec 32 := 512#32
  let v1596 : BitVec 32 := Scalar.addi v1595 c512_i32_435
  v1596
def k0_mult12 (i : grid0.Coords) : BitVec 32 :=
  let arg1 : BitVec 32 := BitVec.ofNat 32 (i 1).val
  let c1024_i32_475 : BitVec 32 := 1024#32
  let v1739 : BitVec 32 := Scalar.muli arg1 c1024_i32_475
  let c768_i32_476 : BitVec 32 := 768#32
  let v1740 : BitVec 32 := Scalar.addi v1739 c768_i32_476
  v1740
def k0_mult13 (i : grid0.Coords) : BitVec 32 :=
  let arg1 : BitVec 32 := BitVec.ofNat 32 (i 1).val
  let c1024_i32_515 : BitVec 32 := 1024#32
  let v1883 : BitVec 32 := Scalar.muli arg1 c1024_i32_515
  let c0_i32_516 : BitVec 32 := 0#32
  let v1884 : BitVec 32 := Scalar.addi v1883 c0_i32_516
  v1884
def k0_off8 (i : grid0.Coords) (c0_i32_516 : BitVec 32) : Fin 2 → Nat :=
  let c384_519 : Index := 384#32
  let arg1 : BitVec 32 := BitVec.ofNat 32 (i 1).val
  let c1024_i32_515 : BitVec 32 := 1024#32
  let v1883 : BitVec 32 := Scalar.muli arg1 c1024_i32_515
  let v1884 : BitVec 32 := Scalar.addi v1883 c0_i32_516
  let v1885 : BitVec 32 := v1884
  let v1888 : Index := Scalar.indexCast v1885
  ![384, v1888.toNat]
def k0_off9 (i : grid0.Coords) (c0_i32_516 : BitVec 32) : Fin 3 → Nat :=
  let arg0 : BitVec 32 := BitVec.ofNat 32 (i 0).val
  let c2_i32 : BitVec 32 := 2#32
  let c0_i32_2 : BitVec 32 := 0#32
  let v6 : BitVec 1 := Scalar.cmpi .eq c2_i32 c0_i32_2
  let c1_i32 : BitVec 32 := 1#32
  let v7 : BitVec 32 := Scalar.select v6 c1_i32 c2_i32
  let v8 : BitVec 32 := Scalar.remsi arg0 v7
  let c0_i32_4 : BitVec 32 := 0#32
  let v10 : BitVec 1 := Scalar.cmpi .slt v8 c0_i32_4
  let c0_i32_5 : BitVec 32 := 0#32
  let v11 : BitVec 1 := Scalar.cmpi .slt v7 c0_i32_5
  let v12 : BitVec 1 := Scalar.xori v10 v11
  let c0_i32_3 : BitVec 32 := 0#32
  let v9 : BitVec 1 := Scalar.cmpi .ne v8 c0_i32_3
  let v13 : BitVec 1 := Scalar.andi v12 v9
  let v14 : BitVec 32 := Scalar.addi v8 v7
  let v15 : BitVec 32 := Scalar.select v13 v14 v8
  let arg1 : BitVec 32 := BitVec.ofNat 32 (i 1).val
  let c1024_i32_515 : BitVec 32 := 1024#32
  let v1883 : BitVec 32 := Scalar.muli arg1 c1024_i32_515
  let v1884 : BitVec 32 := Scalar.addi v1883 c0_i32_516
  let v1885 : BitVec 32 := v1884
  let v1888 : Index := Scalar.indexCast v1885
  ![v15.toNat, 384, v1888.toNat]
def k0_mult14 (i : grid0.Coords) : BitVec 32 :=
  let arg1 : BitVec 32 := BitVec.ofNat 32 (i 1).val
  let c1024_i32_556 : BitVec 32 := 1024#32
  let v2027 : BitVec 32 := Scalar.muli arg1 c1024_i32_556
  let c256_i32_557 : BitVec 32 := 256#32
  let v2028 : BitVec 32 := Scalar.addi v2027 c256_i32_557
  v2028
def k0_mult15 (i : grid0.Coords) : BitVec 32 :=
  let arg1 : BitVec 32 := BitVec.ofNat 32 (i 1).val
  let c1024_i32_597 : BitVec 32 := 1024#32
  let v2171 : BitVec 32 := Scalar.muli arg1 c1024_i32_597
  let c512_i32_598 : BitVec 32 := 512#32
  let v2172 : BitVec 32 := Scalar.addi v2171 c512_i32_598
  v2172
def k0_mult16 (i : grid0.Coords) : BitVec 32 :=
  let arg1 : BitVec 32 := BitVec.ofNat 32 (i 1).val
  let c1024_i32_638 : BitVec 32 := 1024#32
  let v2315 : BitVec 32 := Scalar.muli arg1 c1024_i32_638
  let c768_i32_639 : BitVec 32 := 768#32
  let v2316 : BitVec 32 := Scalar.addi v2315 c768_i32_639
  v2316
def k0_mult17 (i : grid0.Coords) : BitVec 32 :=
  let arg1 : BitVec 32 := BitVec.ofNat 32 (i 1).val
  let c1024_i32_679 : BitVec 32 := 1024#32
  let v2459 : BitVec 32 := Scalar.muli arg1 c1024_i32_679
  let c0_i32_680 : BitVec 32 := 0#32
  let v2460 : BitVec 32 := Scalar.addi v2459 c0_i32_680
  v2460
def k0_off10 (i : grid0.Coords) (c0_i32_680 : BitVec 32) : Fin 2 → Nat :=
  let c512_683 : Index := 512#32
  let arg1 : BitVec 32 := BitVec.ofNat 32 (i 1).val
  let c1024_i32_679 : BitVec 32 := 1024#32
  let v2459 : BitVec 32 := Scalar.muli arg1 c1024_i32_679
  let v2460 : BitVec 32 := Scalar.addi v2459 c0_i32_680
  let v2461 : BitVec 32 := v2460
  let v2464 : Index := Scalar.indexCast v2461
  ![512, v2464.toNat]
def k0_off11 (i : grid0.Coords) (c0_i32_680 : BitVec 32) : Fin 3 → Nat :=
  let arg0 : BitVec 32 := BitVec.ofNat 32 (i 0).val
  let c2_i32 : BitVec 32 := 2#32
  let c0_i32_2 : BitVec 32 := 0#32
  let v6 : BitVec 1 := Scalar.cmpi .eq c2_i32 c0_i32_2
  let c1_i32 : BitVec 32 := 1#32
  let v7 : BitVec 32 := Scalar.select v6 c1_i32 c2_i32
  let v8 : BitVec 32 := Scalar.remsi arg0 v7
  let c0_i32_4 : BitVec 32 := 0#32
  let v10 : BitVec 1 := Scalar.cmpi .slt v8 c0_i32_4
  let c0_i32_5 : BitVec 32 := 0#32
  let v11 : BitVec 1 := Scalar.cmpi .slt v7 c0_i32_5
  let v12 : BitVec 1 := Scalar.xori v10 v11
  let c0_i32_3 : BitVec 32 := 0#32
  let v9 : BitVec 1 := Scalar.cmpi .ne v8 c0_i32_3
  let v13 : BitVec 1 := Scalar.andi v12 v9
  let v14 : BitVec 32 := Scalar.addi v8 v7
  let v15 : BitVec 32 := Scalar.select v13 v14 v8
  let arg1 : BitVec 32 := BitVec.ofNat 32 (i 1).val
  let c1024_i32_679 : BitVec 32 := 1024#32
  let v2459 : BitVec 32 := Scalar.muli arg1 c1024_i32_679
  let v2460 : BitVec 32 := Scalar.addi v2459 c0_i32_680
  let v2461 : BitVec 32 := v2460
  let v2464 : Index := Scalar.indexCast v2461
  ![v15.toNat, 512, v2464.toNat]
def k0_mult18 (i : grid0.Coords) : BitVec 32 :=
  let arg1 : BitVec 32 := BitVec.ofNat 32 (i 1).val
  let c1024_i32_720 : BitVec 32 := 1024#32
  let v2603 : BitVec 32 := Scalar.muli arg1 c1024_i32_720
  let c256_i32_721 : BitVec 32 := 256#32
  let v2604 : BitVec 32 := Scalar.addi v2603 c256_i32_721
  v2604
def k0_mult19 (i : grid0.Coords) : BitVec 32 :=
  let arg1 : BitVec 32 := BitVec.ofNat 32 (i 1).val
  let c1024_i32_761 : BitVec 32 := 1024#32
  let v2747 : BitVec 32 := Scalar.muli arg1 c1024_i32_761
  let c512_i32_762 : BitVec 32 := 512#32
  let v2748 : BitVec 32 := Scalar.addi v2747 c512_i32_762
  v2748
def k0_mult20 (i : grid0.Coords) : BitVec 32 :=
  let arg1 : BitVec 32 := BitVec.ofNat 32 (i 1).val
  let c1024_i32_802 : BitVec 32 := 1024#32
  let v2891 : BitVec 32 := Scalar.muli arg1 c1024_i32_802
  let c768_i32_803 : BitVec 32 := 768#32
  let v2892 : BitVec 32 := Scalar.addi v2891 c768_i32_803
  v2892
def k0_mult21 (i : grid0.Coords) : BitVec 32 :=
  let arg1 : BitVec 32 := BitVec.ofNat 32 (i 1).val
  let c1024_i32_841 : BitVec 32 := 1024#32
  let v3035 : BitVec 32 := Scalar.muli arg1 c1024_i32_841
  let c0_i32_842 : BitVec 32 := 0#32
  let v3036 : BitVec 32 := Scalar.addi v3035 c0_i32_842
  v3036
def k0_off12 (i : grid0.Coords) (c0_i32_842 : BitVec 32) : Fin 2 → Nat :=
  let c640_845 : Index := 640#32
  let arg1 : BitVec 32 := BitVec.ofNat 32 (i 1).val
  let c1024_i32_841 : BitVec 32 := 1024#32
  let v3035 : BitVec 32 := Scalar.muli arg1 c1024_i32_841
  let v3036 : BitVec 32 := Scalar.addi v3035 c0_i32_842
  let v3037 : BitVec 32 := v3036
  let v3040 : Index := Scalar.indexCast v3037
  ![640, v3040.toNat]
def k0_off13 (i : grid0.Coords) (c0_i32_842 : BitVec 32) : Fin 3 → Nat :=
  let arg0 : BitVec 32 := BitVec.ofNat 32 (i 0).val
  let c2_i32 : BitVec 32 := 2#32
  let c0_i32_2 : BitVec 32 := 0#32
  let v6 : BitVec 1 := Scalar.cmpi .eq c2_i32 c0_i32_2
  let c1_i32 : BitVec 32 := 1#32
  let v7 : BitVec 32 := Scalar.select v6 c1_i32 c2_i32
  let v8 : BitVec 32 := Scalar.remsi arg0 v7
  let c0_i32_4 : BitVec 32 := 0#32
  let v10 : BitVec 1 := Scalar.cmpi .slt v8 c0_i32_4
  let c0_i32_5 : BitVec 32 := 0#32
  let v11 : BitVec 1 := Scalar.cmpi .slt v7 c0_i32_5
  let v12 : BitVec 1 := Scalar.xori v10 v11
  let c0_i32_3 : BitVec 32 := 0#32
  let v9 : BitVec 1 := Scalar.cmpi .ne v8 c0_i32_3
  let v13 : BitVec 1 := Scalar.andi v12 v9
  let v14 : BitVec 32 := Scalar.addi v8 v7
  let v15 : BitVec 32 := Scalar.select v13 v14 v8
  let arg1 : BitVec 32 := BitVec.ofNat 32 (i 1).val
  let c1024_i32_841 : BitVec 32 := 1024#32
  let v3035 : BitVec 32 := Scalar.muli arg1 c1024_i32_841
  let v3036 : BitVec 32 := Scalar.addi v3035 c0_i32_842
  let v3037 : BitVec 32 := v3036
  let v3040 : Index := Scalar.indexCast v3037
  ![v15.toNat, 640, v3040.toNat]
def k0_mult22 (i : grid0.Coords) : BitVec 32 :=
  let arg1 : BitVec 32 := BitVec.ofNat 32 (i 1).val
  let c1024_i32_882 : BitVec 32 := 1024#32
  let v3179 : BitVec 32 := Scalar.muli arg1 c1024_i32_882
  let c256_i32_883 : BitVec 32 := 256#32
  let v3180 : BitVec 32 := Scalar.addi v3179 c256_i32_883
  v3180
def k0_mult23 (i : grid0.Coords) : BitVec 32 :=
  let arg1 : BitVec 32 := BitVec.ofNat 32 (i 1).val
  let c1024_i32_923 : BitVec 32 := 1024#32
  let v3323 : BitVec 32 := Scalar.muli arg1 c1024_i32_923
  let c512_i32_924 : BitVec 32 := 512#32
  let v3324 : BitVec 32 := Scalar.addi v3323 c512_i32_924
  v3324
def k0_mult24 (i : grid0.Coords) : BitVec 32 :=
  let arg1 : BitVec 32 := BitVec.ofNat 32 (i 1).val
  let c1024_i32_964 : BitVec 32 := 1024#32
  let v3467 : BitVec 32 := Scalar.muli arg1 c1024_i32_964
  let c768_i32_965 : BitVec 32 := 768#32
  let v3468 : BitVec 32 := Scalar.addi v3467 c768_i32_965
  v3468
def k0_mult25 (i : grid0.Coords) : BitVec 32 :=
  let arg1 : BitVec 32 := BitVec.ofNat 32 (i 1).val
  let c1024_i32_1004 : BitVec 32 := 1024#32
  let v3611 : BitVec 32 := Scalar.muli arg1 c1024_i32_1004
  let c0_i32_1005 : BitVec 32 := 0#32
  let v3612 : BitVec 32 := Scalar.addi v3611 c0_i32_1005
  v3612
def k0_off14 (i : grid0.Coords) (c0_i32_1005 : BitVec 32) : Fin 2 → Nat :=
  let c768_1008 : Index := 768#32
  let arg1 : BitVec 32 := BitVec.ofNat 32 (i 1).val
  let c1024_i32_1004 : BitVec 32 := 1024#32
  let v3611 : BitVec 32 := Scalar.muli arg1 c1024_i32_1004
  let v3612 : BitVec 32 := Scalar.addi v3611 c0_i32_1005
  let v3613 : BitVec 32 := v3612
  let v3616 : Index := Scalar.indexCast v3613
  ![768, v3616.toNat]
def k0_off15 (i : grid0.Coords) (c0_i32_1005 : BitVec 32) : Fin 3 → Nat :=
  let arg0 : BitVec 32 := BitVec.ofNat 32 (i 0).val
  let c2_i32 : BitVec 32 := 2#32
  let c0_i32_2 : BitVec 32 := 0#32
  let v6 : BitVec 1 := Scalar.cmpi .eq c2_i32 c0_i32_2
  let c1_i32 : BitVec 32 := 1#32
  let v7 : BitVec 32 := Scalar.select v6 c1_i32 c2_i32
  let v8 : BitVec 32 := Scalar.remsi arg0 v7
  let c0_i32_4 : BitVec 32 := 0#32
  let v10 : BitVec 1 := Scalar.cmpi .slt v8 c0_i32_4
  let c0_i32_5 : BitVec 32 := 0#32
  let v11 : BitVec 1 := Scalar.cmpi .slt v7 c0_i32_5
  let v12 : BitVec 1 := Scalar.xori v10 v11
  let c0_i32_3 : BitVec 32 := 0#32
  let v9 : BitVec 1 := Scalar.cmpi .ne v8 c0_i32_3
  let v13 : BitVec 1 := Scalar.andi v12 v9
  let v14 : BitVec 32 := Scalar.addi v8 v7
  let v15 : BitVec 32 := Scalar.select v13 v14 v8
  let arg1 : BitVec 32 := BitVec.ofNat 32 (i 1).val
  let c1024_i32_1004 : BitVec 32 := 1024#32
  let v3611 : BitVec 32 := Scalar.muli arg1 c1024_i32_1004
  let v3612 : BitVec 32 := Scalar.addi v3611 c0_i32_1005
  let v3613 : BitVec 32 := v3612
  let v3616 : Index := Scalar.indexCast v3613
  ![v15.toNat, 768, v3616.toNat]
def k0_mult26 (i : grid0.Coords) : BitVec 32 :=
  let arg1 : BitVec 32 := BitVec.ofNat 32 (i 1).val
  let c1024_i32_1045 : BitVec 32 := 1024#32
  let v3755 : BitVec 32 := Scalar.muli arg1 c1024_i32_1045
  let c256_i32_1046 : BitVec 32 := 256#32
  let v3756 : BitVec 32 := Scalar.addi v3755 c256_i32_1046
  v3756
def k0_mult27 (i : grid0.Coords) : BitVec 32 :=
  let arg1 : BitVec 32 := BitVec.ofNat 32 (i 1).val
  let c1024_i32_1086 : BitVec 32 := 1024#32
  let v3899 : BitVec 32 := Scalar.muli arg1 c1024_i32_1086
  let c512_i32_1087 : BitVec 32 := 512#32
  let v3900 : BitVec 32 := Scalar.addi v3899 c512_i32_1087
  v3900
def k0_mult28 (i : grid0.Coords) : BitVec 32 :=
  let arg1 : BitVec 32 := BitVec.ofNat 32 (i 1).val
  let c1024_i32_1127 : BitVec 32 := 1024#32
  let v4043 : BitVec 32 := Scalar.muli arg1 c1024_i32_1127
  let c768_i32_1128 : BitVec 32 := 768#32
  let v4044 : BitVec 32 := Scalar.addi v4043 c768_i32_1128
  v4044
def k0_mult29 (i : grid0.Coords) : BitVec 32 :=
  let arg1 : BitVec 32 := BitVec.ofNat 32 (i 1).val
  let c1024_i32_1166 : BitVec 32 := 1024#32
  let v4187 : BitVec 32 := Scalar.muli arg1 c1024_i32_1166
  let c0_i32_1167 : BitVec 32 := 0#32
  let v4188 : BitVec 32 := Scalar.addi v4187 c0_i32_1167
  v4188
def k0_off16 (i : grid0.Coords) (c0_i32_1167 : BitVec 32) : Fin 2 → Nat :=
  let c896_1170 : Index := 896#32
  let arg1 : BitVec 32 := BitVec.ofNat 32 (i 1).val
  let c1024_i32_1166 : BitVec 32 := 1024#32
  let v4187 : BitVec 32 := Scalar.muli arg1 c1024_i32_1166
  let v4188 : BitVec 32 := Scalar.addi v4187 c0_i32_1167
  let v4189 : BitVec 32 := v4188
  let v4192 : Index := Scalar.indexCast v4189
  ![896, v4192.toNat]
def k0_off17 (i : grid0.Coords) (c0_i32_1167 : BitVec 32) : Fin 3 → Nat :=
  let arg0 : BitVec 32 := BitVec.ofNat 32 (i 0).val
  let c2_i32 : BitVec 32 := 2#32
  let c0_i32_2 : BitVec 32 := 0#32
  let v6 : BitVec 1 := Scalar.cmpi .eq c2_i32 c0_i32_2
  let c1_i32 : BitVec 32 := 1#32
  let v7 : BitVec 32 := Scalar.select v6 c1_i32 c2_i32
  let v8 : BitVec 32 := Scalar.remsi arg0 v7
  let c0_i32_4 : BitVec 32 := 0#32
  let v10 : BitVec 1 := Scalar.cmpi .slt v8 c0_i32_4
  let c0_i32_5 : BitVec 32 := 0#32
  let v11 : BitVec 1 := Scalar.cmpi .slt v7 c0_i32_5
  let v12 : BitVec 1 := Scalar.xori v10 v11
  let c0_i32_3 : BitVec 32 := 0#32
  let v9 : BitVec 1 := Scalar.cmpi .ne v8 c0_i32_3
  let v13 : BitVec 1 := Scalar.andi v12 v9
  let v14 : BitVec 32 := Scalar.addi v8 v7
  let v15 : BitVec 32 := Scalar.select v13 v14 v8
  let arg1 : BitVec 32 := BitVec.ofNat 32 (i 1).val
  let c1024_i32_1166 : BitVec 32 := 1024#32
  let v4187 : BitVec 32 := Scalar.muli arg1 c1024_i32_1166
  let v4188 : BitVec 32 := Scalar.addi v4187 c0_i32_1167
  let v4189 : BitVec 32 := v4188
  let v4192 : Index := Scalar.indexCast v4189
  ![v15.toNat, 896, v4192.toNat]
def k0_mult30 (i : grid0.Coords) : BitVec 32 :=
  let arg1 : BitVec 32 := BitVec.ofNat 32 (i 1).val
  let c1024_i32_1207 : BitVec 32 := 1024#32
  let v4331 : BitVec 32 := Scalar.muli arg1 c1024_i32_1207
  let c256_i32_1208 : BitVec 32 := 256#32
  let v4332 : BitVec 32 := Scalar.addi v4331 c256_i32_1208
  v4332
def k0_mult31 (i : grid0.Coords) : BitVec 32 :=
  let arg1 : BitVec 32 := BitVec.ofNat 32 (i 1).val
  let c1024_i32_1248 : BitVec 32 := 1024#32
  let v4475 : BitVec 32 := Scalar.muli arg1 c1024_i32_1248
  let c512_i32_1249 : BitVec 32 := 512#32
  let v4476 : BitVec 32 := Scalar.addi v4475 c512_i32_1249
  v4476
def k0_mult32 (i : grid0.Coords) : BitVec 32 :=
  let arg1 : BitVec 32 := BitVec.ofNat 32 (i 1).val
  let c1024_i32_1289 : BitVec 32 := 1024#32
  let v4619 : BitVec 32 := Scalar.muli arg1 c1024_i32_1289
  let c768_i32_1290 : BitVec 32 := 768#32
  let v4620 : BitVec 32 := Scalar.addi v4619 c768_i32_1290
  v4620
def k0_cond2 (i : grid0.Coords) : BitVec 1 :=
  let arg0 : BitVec 32 := BitVec.ofNat 32 (i 0).val
  let c0_i32_0 : BitVec 32 := 0#32
  let v3 : BitVec 1 := Scalar.cmpi .sgt arg0 c0_i32_0
  let v4 : BitVec 32 := Scalar.extui v3
  let c0_i32_1 : BitVec 32 := 0#32
  let v5 : BitVec 1 := Scalar.cmpi .ne v4 c0_i32_1
  v5

def k0_off18 (i : grid0.Coords) (c0_i32_7 : BitVec 32) : Fin 2 → Nat :=
  let c0 : Index := 0#32
  let arg1 : BitVec 32 := BitVec.ofNat 32 (i 1).val
  let c7_i32 : BitVec 32 := 7#32
  let v17 : BitVec 32 := Scalar.muli arg1 c7_i32
  let v18 : BitVec 32 := Scalar.addi v17 c0_i32_7
  let v19 : Index := Scalar.indexCast v18
  ![0, v19.toNat]
def k0_off19 (i : grid0.Coords) (c0_i32_14 : BitVec 32) : Fin 2 → Nat :=
  let c1 : Index := 1#32
  let arg1 : BitVec 32 := BitVec.ofNat 32 (i 1).val
  let c7_i32_13 : BitVec 32 := 7#32
  let v29 : BitVec 32 := Scalar.muli arg1 c7_i32_13
  let v30 : BitVec 32 := Scalar.addi v29 c0_i32_14
  let v31 : Index := Scalar.indexCast v30
  ![1, v31.toNat]
def k0_off20 (i : grid0.Coords) (c0_i32_20 : BitVec 32) : Fin 2 → Nat :=
  let c2 : Index := 2#32
  let arg1 : BitVec 32 := BitVec.ofNat 32 (i 1).val
  let c7_i32_19 : BitVec 32 := 7#32
  let v41 : BitVec 32 := Scalar.muli arg1 c7_i32_19
  let v42 : BitVec 32 := Scalar.addi v41 c0_i32_20
  let v43 : Index := Scalar.indexCast v42
  ![2, v43.toNat]
def k0_off21 (i : grid0.Coords) (c0_i32_26 : BitVec 32) : Fin 2 → Nat :=
  let c3 : Index := 3#32
  let arg1 : BitVec 32 := BitVec.ofNat 32 (i 1).val
  let c7_i32_25 : BitVec 32 := 7#32
  let v53 : BitVec 32 := Scalar.muli arg1 c7_i32_25
  let v54 : BitVec 32 := Scalar.addi v53 c0_i32_26
  let v55 : Index := Scalar.indexCast v54
  ![3, v55.toNat]
def k0_off22 (i : grid0.Coords) (c0_i32_32 : BitVec 32) : Fin 2 → Nat :=
  let c4 : Index := 4#32
  let arg1 : BitVec 32 := BitVec.ofNat 32 (i 1).val
  let c7_i32_31 : BitVec 32 := 7#32
  let v65 : BitVec 32 := Scalar.muli arg1 c7_i32_31
  let v66 : BitVec 32 := Scalar.addi v65 c0_i32_32
  let v67 : Index := Scalar.indexCast v66
  ![4, v67.toNat]
def k0_off23 (i : grid0.Coords) (c0_i32_38 : BitVec 32) : Fin 2 → Nat :=
  let c5 : Index := 5#32
  let arg1 : BitVec 32 := BitVec.ofNat 32 (i 1).val
  let c7_i32_37 : BitVec 32 := 7#32
  let v77 : BitVec 32 := Scalar.muli arg1 c7_i32_37
  let v78 : BitVec 32 := Scalar.addi v77 c0_i32_38
  let v79 : Index := Scalar.indexCast v78
  ![5, v79.toNat]
def k0_off24 (i : grid0.Coords) (c0_i32_44 : BitVec 32) : Fin 2 → Nat :=
  let c6 : Index := 6#32
  let arg1 : BitVec 32 := BitVec.ofNat 32 (i 1).val
  let c7_i32_43 : BitVec 32 := 7#32
  let v89 : BitVec 32 := Scalar.muli arg1 c7_i32_43
  let v90 : BitVec 32 := Scalar.addi v89 c0_i32_44
  let v91 : Index := Scalar.indexCast v90
  ![6, v91.toNat]
def k0_off25 (i : grid0.Coords) (c0_i32_50 : BitVec 32) : Fin 2 → Nat :=
  let c7 : Index := 7#32
  let arg1 : BitVec 32 := BitVec.ofNat 32 (i 1).val
  let c7_i32_49 : BitVec 32 := 7#32
  let v101 : BitVec 32 := Scalar.muli arg1 c7_i32_49
  let v102 : BitVec 32 := Scalar.addi v101 c0_i32_50
  let v103 : Index := Scalar.indexCast v102
  ![7, v103.toNat]
def k0_off26 (i : grid0.Coords) (c0_i32_56 : BitVec 32) : Fin 2 → Nat :=
  let c8 : Index := 8#32
  let arg1 : BitVec 32 := BitVec.ofNat 32 (i 1).val
  let c7_i32_55 : BitVec 32 := 7#32
  let v113 : BitVec 32 := Scalar.muli arg1 c7_i32_55
  let v114 : BitVec 32 := Scalar.addi v113 c0_i32_56
  let v115 : Index := Scalar.indexCast v114
  ![8, v115.toNat]
def k0_off27 (i : grid0.Coords) (c0_i32_62 : BitVec 32) : Fin 2 → Nat :=
  let c9 : Index := 9#32
  let arg1 : BitVec 32 := BitVec.ofNat 32 (i 1).val
  let c7_i32_61 : BitVec 32 := 7#32
  let v125 : BitVec 32 := Scalar.muli arg1 c7_i32_61
  let v126 : BitVec 32 := Scalar.addi v125 c0_i32_62
  let v127 : Index := Scalar.indexCast v126
  ![9, v127.toNat]
def k0_off28 (i : grid0.Coords) (c0_i32_68 : BitVec 32) : Fin 2 → Nat :=
  let c10 : Index := 10#32
  let arg1 : BitVec 32 := BitVec.ofNat 32 (i 1).val
  let c7_i32_67 : BitVec 32 := 7#32
  let v137 : BitVec 32 := Scalar.muli arg1 c7_i32_67
  let v138 : BitVec 32 := Scalar.addi v137 c0_i32_68
  let v139 : Index := Scalar.indexCast v138
  ![10, v139.toNat]
def k0_off29 (i : grid0.Coords) (c0_i32_74 : BitVec 32) : Fin 2 → Nat :=
  let c11 : Index := 11#32
  let arg1 : BitVec 32 := BitVec.ofNat 32 (i 1).val
  let c7_i32_73 : BitVec 32 := 7#32
  let v149 : BitVec 32 := Scalar.muli arg1 c7_i32_73
  let v150 : BitVec 32 := Scalar.addi v149 c0_i32_74
  let v151 : Index := Scalar.indexCast v150
  ![11, v151.toNat]
def k0_off30 (i : grid0.Coords) (c0_i32_80 : BitVec 32) : Fin 2 → Nat :=
  let c12 : Index := 12#32
  let arg1 : BitVec 32 := BitVec.ofNat 32 (i 1).val
  let c7_i32_79 : BitVec 32 := 7#32
  let v161 : BitVec 32 := Scalar.muli arg1 c7_i32_79
  let v162 : BitVec 32 := Scalar.addi v161 c0_i32_80
  let v163 : Index := Scalar.indexCast v162
  ![12, v163.toNat]
def k0_off31 (i : grid0.Coords) (c0_i32_86 : BitVec 32) : Fin 2 → Nat :=
  let c13 : Index := 13#32
  let arg1 : BitVec 32 := BitVec.ofNat 32 (i 1).val
  let c7_i32_85 : BitVec 32 := 7#32
  let v173 : BitVec 32 := Scalar.muli arg1 c7_i32_85
  let v174 : BitVec 32 := Scalar.addi v173 c0_i32_86
  let v175 : Index := Scalar.indexCast v174
  ![13, v175.toNat]
def k0_off32 (i : grid0.Coords) (c0_i32_92 : BitVec 32) : Fin 2 → Nat :=
  let c14 : Index := 14#32
  let arg1 : BitVec 32 := BitVec.ofNat 32 (i 1).val
  let c7_i32_91 : BitVec 32 := 7#32
  let v185 : BitVec 32 := Scalar.muli arg1 c7_i32_91
  let v186 : BitVec 32 := Scalar.addi v185 c0_i32_92
  let v187 : Index := Scalar.indexCast v186
  ![14, v187.toNat]
def k0_off33 (i : grid0.Coords) (c0_i32_98 : BitVec 32) : Fin 2 → Nat :=
  let c15 : Index := 15#32
  let arg1 : BitVec 32 := BitVec.ofNat 32 (i 1).val
  let c7_i32_97 : BitVec 32 := 7#32
  let v197 : BitVec 32 := Scalar.muli arg1 c7_i32_97
  let v198 : BitVec 32 := Scalar.addi v197 c0_i32_98
  let v199 : Index := Scalar.indexCast v198
  ![15, v199.toNat]
def k0_off34 (i : grid0.Coords) (c0_i32_104 : BitVec 32) : Fin 2 → Nat :=
  let c16 : Index := 16#32
  let arg1 : BitVec 32 := BitVec.ofNat 32 (i 1).val
  let c7_i32_103 : BitVec 32 := 7#32
  let v209 : BitVec 32 := Scalar.muli arg1 c7_i32_103
  let v210 : BitVec 32 := Scalar.addi v209 c0_i32_104
  let v211 : Index := Scalar.indexCast v210
  ![16, v211.toNat]
def k0_off35 (i : grid0.Coords) (c0_i32_110 : BitVec 32) : Fin 2 → Nat :=
  let c17 : Index := 17#32
  let arg1 : BitVec 32 := BitVec.ofNat 32 (i 1).val
  let c7_i32_109 : BitVec 32 := 7#32
  let v221 : BitVec 32 := Scalar.muli arg1 c7_i32_109
  let v222 : BitVec 32 := Scalar.addi v221 c0_i32_110
  let v223 : Index := Scalar.indexCast v222
  ![17, v223.toNat]
def k0_off36 (i : grid0.Coords) (c0_i32_116 : BitVec 32) : Fin 2 → Nat :=
  let c18 : Index := 18#32
  let arg1 : BitVec 32 := BitVec.ofNat 32 (i 1).val
  let c7_i32_115 : BitVec 32 := 7#32
  let v233 : BitVec 32 := Scalar.muli arg1 c7_i32_115
  let v234 : BitVec 32 := Scalar.addi v233 c0_i32_116
  let v235 : Index := Scalar.indexCast v234
  ![18, v235.toNat]
def k0_off37 (i : grid0.Coords) (c0_i32_122 : BitVec 32) : Fin 2 → Nat :=
  let c19 : Index := 19#32
  let arg1 : BitVec 32 := BitVec.ofNat 32 (i 1).val
  let c7_i32_121 : BitVec 32 := 7#32
  let v245 : BitVec 32 := Scalar.muli arg1 c7_i32_121
  let v246 : BitVec 32 := Scalar.addi v245 c0_i32_122
  let v247 : Index := Scalar.indexCast v246
  ![19, v247.toNat]
def k0_off38 (i : grid0.Coords) : Fin 3 → Nat :=
  let arg0 : BitVec 32 := BitVec.ofNat 32 (i 0).val
  let c1_i32 : BitVec 32 := 1#32
  let v6 : BitVec 32 := Scalar.addi arg0 c1_i32
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi v6 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let v257 : Index := Scalar.indexCast v16
  let c0_127 : Index := 0#32
  let c0_128 : Index := 0#32
  ![v257.toNat, 0, 0]
def cc0_transform_0 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.minsi arg0 c15_i32
  let c16_i32 : BitVec 32 := 16#32
  let v1 : BitVec 1 := Scalar.cmpi .slt arg0 c16_i32
  let c4_i32 : BitVec 32 := 4#32
  let v2 : BitVec 32 := Scalar.select v1 arg1 c4_i32
  let c0_i32 : BitVec 32 := 0#32
  ![v0.toNat, v2.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .sgt arg0 c0_i32
  let c0_i32_0 : BitVec 32 := 0#32
  let v1 : BitVec 32 := Scalar.select v0 arg1 c0_i32_0
  let c0_i32_1 : BitVec 32 := 0#32
  let c0_i32_2 : BitVec 32 := 0#32
  ![c0_i32_1.toNat, v1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let v2 : BitVec 1 := Scalar.cmpi .sgt arg0 c0_i32_0
  let c0_i32_1 : BitVec 32 := 0#32
  let v3 : BitVec 32 := Scalar.select v2 arg1 c0_i32_1
  let c0_i32_2 : BitVec 32 := 0#32
  ![v1.toNat, v3.toNat]

def cc0_transform_4 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.minsi arg0 c15_i32
  let c16_i32 : BitVec 32 := 16#32
  let v1 : BitVec 1 := Scalar.cmpi .slt arg0 c16_i32
  let c4_i32 : BitVec 32 := 4#32
  let v2 : BitVec 32 := Scalar.select v1 arg1 c4_i32
  let c0_i32 : BitVec 32 := 0#32
  ![v0.toNat, v2.toNat]

def cc0_transform_5 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.minsi arg0 c15_i32
  let c0_i32 : BitVec 32 := 0#32
  let c0_i32_0 : BitVec 32 := 0#32
  ![v0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S5120x1792 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .smem S20x35 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x1792 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x20 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== ReferenceIdeal.lean ====
abbrev S2x8192x5120 : Shape := ⟨3, ![2, 8192, 5120]⟩
abbrev S5120x8960 : Shape := ⟨2, ![5120, 8960]⟩
abbrev S20x35 : Shape := ⟨2, ![20, 35]⟩
abbrev S16384x5120 : Shape := ⟨2, ![16384, 5120]⟩
abbrev S16384x8960 : Shape := ⟨2, ![16384, 8960]⟩
abbrev S128x20 : Shape := ⟨2, ![128, 20]⟩
abbrev S128x128x20x256 : Shape := ⟨4, ![128, 128, 20, 256]⟩
abbrev S128x1x20 : Shape := ⟨3, ![128, 1, 20]⟩
abbrev S128x128x20 : Shape := ⟨3, ![128, 128, 20]⟩
abbrev S16384x20 : Shape := ⟨2, ![16384, 20]⟩
abbrev S16384x20x256 : Shape := ⟨3, ![16384, 20, 256]⟩
abbrev S16384x20x1 : Shape := ⟨3, ![16384, 20, 1]⟩
abbrev S20x256x35x256 : Shape := ⟨4, ![20, 256, 35, 256]⟩
abbrev S20x1x35x1 : Shape := ⟨4, ![20, 1, 35, 1]⟩

abbrev nBuf : Space → Nat
  | .hbm => 7
  | .vmem => 6
  | .smem => 0
  | _ => 0

abbrev bufTy : (tb : Table) → Fin (tcTables nBuf tb) → BufTy
  | .hbm, ⟨0, _⟩ => ⟨S2x8192x5120, .bf16⟩
  | .hbm, ⟨1, _⟩ => ⟨S5120x8960, .fp8e4m3⟩
  | .hbm, ⟨2, _⟩ => ⟨S20x35, .f32⟩
  | .hbm, ⟨3, _⟩ => ⟨S16384x5120, .bf16⟩
  | .hbm, ⟨4, _⟩ => ⟨S16384x8960, .bf16⟩
  | .hbm, ⟨5, _⟩ => ⟨S16384x5120, .fp8e4m3⟩
  | .hbm, ⟨6, _⟩ => ⟨S128x20, .f32⟩
  | .local _ .vmem, ⟨0, _⟩ => ⟨S16384x5120, .bf16⟩
  | .local _ .vmem, ⟨1, _⟩ => ⟨S5120x8960, .fp8e4m3⟩
  | .local _ .vmem, ⟨2, _⟩ => ⟨S20x35, .f32⟩
  | .local _ .vmem, ⟨3, _⟩ => ⟨S16384x8960, .bf16⟩
  | .local _ .vmem, ⟨4, _⟩ => ⟨S16384x5120, .fp8e4m3⟩
  | .local _ .vmem, ⟨5, _⟩ => ⟨S128x20, .f32⟩
  | _, _ => ⟨S2x8192x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S16384x5120 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S5120x8960 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S20x35 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16384x8960 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16384x5120 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S128x20 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Same.lean ====
module

public import proofs.«01_k».proof.Proof.Gen.Kernel
public import proofs.«01_k».proof.Proof.Gen.KernelIdeal

@[expose] public section

set_option maxRecDepth 65536

noncomputable section

namespace Cert.Same

open Idealize.ShloMosaic Idealize.SL.Sem

attribute [local instance] Cert.Kernel.Gen.facts Cert.KernelIdeal.Gen.facts

variable {F : FTy → Type} [FloatOps F]

/-! The kernel and its idealization are one program text, so what is proved of the second at any number
    system holds of the first. -/

theorem main_eq : (Cert.Kernel.main (F := F)) = Cert.KernelIdeal.main (F := F) := rfl

theorem defs₀_eq : (Cert.Kernel.defs₀ (F := F)) = Cert.KernelIdeal.defs₀ (F := F) := by
  funext k l a
  cases k with
  | tc =>
    match l, a with
    | 0, (t, s) =>
      unfold Cert.Kernel.defs₀ Cert.KernelIdeal.defs₀
      dsimp only [Defs.onTc]
      rfl
  | scScalar _ => rfl
  | scVector _ _ => rfl
theorem defs_eq : (Cert.Kernel.defs (F := F)) = Cert.KernelIdeal.defs (F := F) :=
  congrArg (Pipeline.defs (Cert.KernelIdeal.pcfgs (F := F))) defs₀_eq

end Cert.Same

end
-- ==== Proof.Run.lean ====
module

public import proofs.«01_k».proof.Proof.Gen.KernelIdeal.Skeleton
public import proofs.«01_k».proof.Proof.Gen.KernelIdeal.Frame

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (UR sig nD τ) ℕ

variable (i : grid0.Coords) (arg2 : Memref sig .tc .vmem S1024x1024 .bf16) (harg2 : arg2.IsWhole) (arg3 : Memref sig .tc .vmem S5120x1792 .fp8e4m3) (harg3 : arg3.IsWhole) (arg4 : Memref sig .tc .smem S20x35 .f32) (harg4 : arg4.IsWhole) (arg5 : Memref sig .tc .vmem S1024x1792 .bf16) (harg5 : arg5.IsWhole) (arg6 : Memref sig .tc .vmem S1024x1024 .fp8e4m3) (harg6 : arg6.IsWhole) (arg7 : Memref sig .tc .vmem S8x20 .f32) (harg7 : arg7.IsWhole) (arg8 : Memref sig .tc .vmem S2x1024x5120 .bf16) (harg8 : arg8.IsWhole) (arg9 : Memref sig .tc .vmem S2x5120x256 .bf16) (harg9 : arg9.IsWhole)

/-- A TensorCore program of this kernel that returns nothing. -/
abbrev TcProg (F : FTy → Type) [FloatOps F] := Prog (TpuEff nD τ sig (Elt F) Λ₀ .tc) PUnit

/-- The quantising half of the body, then `jp`. -/
def quantHalf (k0_h1 : k0_cond1 i = 1#1) (jp : PUnit.{1} → TcProg F) : TcProg F := do
  let ⟨v16, v17, v2727, v2757, v2758, v2759⟩ : Σ' (v16 : IVec S8x20 32) (v17 : IVec S8x20 32) (v2727 : FVec F S8x20 .f32) (v2757 : FVec F S128x256 .bf16) (v2758 : FVec F S128x256 .bf16), FVec F S16x256 .bf16 ← k0_part101 i arg2 harg2 arg3 harg3 arg4 harg4 arg5 harg5 arg6 harg6 arg7 harg7 arg8 harg8 arg9 harg9 (BitVec.ofNat 32 (i 0).val) (BitVec.ofNat 32 (i 1).val) k0_h1
  let ⟨v4599, v4607, v4615⟩ : Σ' (v4599 : FVec F S8x20 .f32) (v4607 : FVec F S128x256 .bf16), FVec F S128x256 .fp8e4m3 ← k0_part102 i arg2 harg2 arg3 harg3 arg4 harg4 arg5 harg5 arg6 harg6 arg7 harg7 arg8 harg8 arg9 harg9 (BitVec.ofNat 32 (i 1).val) k0_h1 v16 v17 v2727 v2757 v2758 v2759
  let v4622 : Memref sig .tc .vmem S1x1024x5120 .bf16 := arg8.slice (Rect.unit (s := S2x1024x5120) (k0_off1 i) S1x1024x5120.size (k0_off1_inb i k0_h1)) (fun _ => rfl)
  let v4623 : Memref sig .tc .vmem S1024x5120 .bf16 := v4622.squeeze S1024x5120 squeezes_S1x1024x5120_S1024x5120
  let v4625 : Vec F S128x256 .bf16 ← Prog.lift (.load v4623 (Rect.unit (s := S1024x5120) (k0_off16 i 768#32) S128x256.size (k0_off16_inb i k0_h1 3)).toLoadRect (View.loadsAt_vmem h_S128x256))
  Prog.lift (.store arg8 (Rect.unit (s := S2x1024x5120) (k0_off17 i 768#32) S1x128x256.size (k0_off17_inb i k0_h1 3)) (k0_pay1 v4607 v4615) Finset.univ (View.stores_vmem h_S1x128x256 (harg8.storeExact_slice rfl _ (k0_off17_packedbf16 i k0_h1 3)) (fun _ => rfl)) (.inl rfl))
  let v4628 : Vec F S8x20 .f32 ← Prog.lift (.load arg7 (Rect.unit (s := S8x20) ![0, 0] S8x20.size inb_S8x20_S8x20_0_0).toLoadRect (View.loadsAt_vmem h_S8x20))
  Prog.lift (.store arg7 (Rect.unit (s := S8x20) ![0, 0] S8x20.size inb_S8x20_S8x20_0_0) v4599 Finset.univ (View.stores_vmem_bits_univ h_S8x20 rfl) (.inl rfl))
  jp ⟨⟩

/-- The multiplying half of the body. -/
def mulHalf (k0_h2 : k0_cond2 i = 1#1) : TcProg F := do
  let ⟨v1747, v1748⟩ : Σ' (v1747 : FVec F S1024x5120 .bf16), Vec F S1x5120x256 .bf16 ← k0_part154 i arg2 harg2 arg3 harg3 arg4 harg4 arg5 harg5 arg6 harg6 arg7 harg7 arg8 harg8 arg9 harg9 (BitVec.ofNat 32 (i 0).val) (BitVec.ofNat 32 (i 1).val) k0_h2
  let v1752 : Vec F S1024x256 .bf16 ← Prog.lift (.load arg5 (Rect.unit (s := S1024x1792) ![0, 1536] S1024x256.size inb_S1024x1792_S1024x256_0_1536).toLoadRect (View.loadsAt_vmem h_S1024x256))
  Prog.lift (.store arg5 (Rect.unit (s := S1024x1792) ![0, 1536] S1024x256.size inb_S1024x1792_S1024x256_0_1536) (k0_pay2 v1747 v1748) Finset.univ (View.stores_vmem h_S1024x256 (harg5.storeExact_slice rfl _ packedbf16_S1024x1792_S1024x256_0_1536) (fun _ => rfl)) (.inl rfl))
  pure ⟨⟩

set_option maxRecDepth 65536 in
/-- The body is its quantising half, under its condition, and then its multiplying half, under its. -/
theorem body_halves : cc0_linear_skel (F := F) i arg2 harg2 arg3 harg3 arg4 harg4 arg5 harg5 arg6 harg6 arg7 harg7 arg8 harg8 arg9 harg9
      = if h : k0_cond1 i = 1#1 then quantHalf i arg2 harg2 arg3 harg3 arg4 harg4 arg5 harg5 arg6 harg6 arg7 harg7 arg8 harg8 arg9 harg9 h (fun _ => if h' : k0_cond2 i = 1#1 then mulHalf i arg2 harg2 arg3 harg3 arg4 harg4 arg5 harg5 arg6 harg6 arg7 harg7 arg8 harg8 arg9 harg9 h' else pure ⟨⟩)
        else if h' : k0_cond2 i = 1#1 then mulHalf i arg2 harg2 arg3 harg3 arg4 harg4 arg5 harg5 arg6 harg6 arg7 harg7 arg8 harg8 arg9 harg9 h' else pure ⟨⟩ := rfl

/-- What the quantising half's run says: from contents `f` of the buffers it touches to contents `g`. -/
def SpecA (c : Dev nD) (h : k0_cond1 i = 1#1) (f2 : Buf (Elt F) (arg2.view.loc (c : Thread nD τ))) (f6 g6 : Buf (Elt F) (arg6.view.loc (c : Thread nD τ))) (f7 g7 : Buf (Elt F) (arg7.view.loc (c : Thread nD τ))) (f8 g8 : Buf (Elt F) (arg8.view.loc (c : Thread nD τ))) : Prop :=
  ∀ (E : Set ℕ) (jp : PUnit.{1} → TcProg F) (K : PUnit.{1} → sProp 𝕄),
      iprop((arg2.view.loc (c : Thread nD τ) ↦[arg2.view.set]{fullShare} f2) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8)
        ∗ (iprop((arg2.view.loc (c : Thread nD τ) ↦[arg2.view.set]{fullShare} f2) ∗ (arg6.view.loc (c : Thread nD τ) ↦[arg6.view.set]{fullShare} g6) ∗ (arg7.view.loc (c : Thread nD τ) ↦[arg7.view.set]{fullShare} g7) ∗ (arg8.view.loc (c : Thread nD τ) ↦[arg8.view.set]{fullShare} g8))
          -∗ wp frame (wpE (defs₀ (F := F)) Variants.none c none) E (jp ⟨⟩) K))
      ⊢ wp frame (wpE (defs₀ (F := F)) Variants.none c none) E (quantHalf i arg2 harg2 arg3 harg3 arg4 harg4 arg5 harg5 arg6 harg6 arg7 harg7 arg8 harg8 arg9 harg9 h jp) K

set_option maxHeartbeats 0 in
/-- The quantising half's run. -/
def runA (c : Dev nD) (h : k0_cond1 i = 1#1) (f2 : Buf (Elt F) (arg2.view.loc (c : Thread nD τ))) (f6 : Buf (Elt F) (arg6.view.loc (c : Thread nD τ))) (f7 : Buf (Elt F) (arg7.view.loc (c : Thread nD τ))) (f8 : Buf (Elt F) (arg8.view.loc (c : Thread nD τ))) :
    { W : Buf (Elt F) (arg6.view.loc (c : Thread nD τ)) × Buf (Elt F) (arg7.view.loc (c : Thread nD τ)) × Buf (Elt F) (arg8.view.loc (c : Thread nD τ)) // SpecA i arg2 harg2 arg3 harg3 arg4 harg4 arg5 harg5 arg6 harg6 arg7 harg7 arg8 harg8 arg9 harg9 c h f2 f6 W.1 f7 W.2.1 f8 W.2.2 } := by
  refine ⟨⟨?_, ?_, ?_⟩, ?run⟩
  case run =>
    unfold SpecA
    intro E jp K
    unfold quantHalf
    iintro ⟨H2, H6, H7, H8, Hk⟩
    sl_exec_parts
    iapply Hk
    isplitl [H2]; · iexact H2
    isplitl [H6]; · iexact H6
    isplitl [H7]; · iexact H7
    iexact H8

/-- What the multiplying half's run says: from contents `f` of the buffers it touches to contents `g`. -/
def SpecB (c : Dev nD) (h : k0_cond2 i = 1#1) (f3 : Buf (Elt F) (arg3.view.loc (c : Thread nD τ))) (f4 : Buf (Elt F) (arg4.view.loc (c : Thread nD τ))) (f5 g5 : Buf (Elt F) (arg5.view.loc (c : Thread nD τ))) (f8 : Buf (Elt F) (arg8.view.loc (c : Thread nD τ))) (f9 g9 : Buf (Elt F) (arg9.view.loc (c : Thread nD τ))) : Prop :=
  ∀ (E : Set ℕ) (K : PUnit.{1} → sProp 𝕄),
      iprop((arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg8.view.loc (c : Thread nD τ) ↦[arg8.view.set]{fullShare} f8) ∗ (arg9.view.loc (c : Thread nD τ) ↦[arg9.view.set]{fullShare} f9)
        ∗ (iprop((arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} g5) ∗ (arg8.view.loc (c : Thread nD τ) ↦[arg8.view.set]{fullShare} f8) ∗ (arg9.view.loc (c : Thread nD τ) ↦[arg9.view.set]{fullShare} g9)) -∗ K ⟨⟩))
      ⊢ wp frame (wpE (defs₀ (F := F)) Variants.none c none) E (mulHalf i arg2 harg2 arg3 harg3 arg4 harg4 arg5 harg5 arg6 harg6 arg7 harg7 arg8 harg8 arg9 harg9 h) K

set_option maxHeartbeats 0 in
/-- The multiplying half's run. -/
def runB (c : Dev nD) (h : k0_cond2 i = 1#1) (f3 : Buf (Elt F) (arg3.view.loc (c : Thread nD τ))) (f4 : Buf (Elt F) (arg4.view.loc (c : Thread nD τ))) (f5 : Buf (Elt F) (arg5.view.loc (c : Thread nD τ))) (f8 : Buf (Elt F) (arg8.view.loc (c : Thread nD τ))) (f9 : Buf (Elt F) (arg9.view.loc (c : Thread nD τ))) :
    { W : Buf (Elt F) (arg5.view.loc (c : Thread nD τ)) × Buf (Elt F) (arg9.view.loc (c : Thread nD τ)) // SpecB i arg2 harg2 arg3 harg3 arg4 harg4 arg5 harg5 arg6 harg6 arg7 harg7 arg8 harg8 arg9 harg9 c h f3 f4 f5 W.1 f8 f9 W.2 } := by
  refine ⟨⟨?_, ?_⟩, ?run⟩
  case run =>
    unfold SpecB
    intro E K
    unfold mulHalf
    iintro ⟨H3, H4, H5, H8, H9, Hk⟩
    sl_exec_parts
    sl_step
    iapply Hk
    isplitl [H3]; · iexact H3
    isplitl [H4]; · iexact H4
    isplitl [H5]; · iexact H5
    isplitl [H8]; · iexact H8
    iexact H9

end Cert.KernelIdeal.Hand
end
-- ==== Proof.Pieces.lean ====
module

public import proofs.«01_k».proof.Proof.Run
public import proofs.«01_k».proof.Proof.Gen.KernelIdeal.Frame

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (UR sig nD τ) ℕ

/-- The block's largest magnitude times the constant, over the vector it is spread on, -/
def bV (X : Vec F S128x256 .bf16) : FVec F S8x128 .f32 := k0_pay5 X
/-- its exponent, -/
def bExp (X : Vec F S128x256 .bf16) : IVec S8x128 32 :=
  k0_pay10 (bV X) (k0_pay7 (bV X) k0_pay6 128#32) (k0_pay8 (bV X) k0_pay6 128#32) (k0_pay9 (bV X) k0_pay6 128#32)
/-- its scale, -/
def bScale (X : Vec F S128x256 .bf16) : FVec F S8x128 .f32 :=
  k0_pay11 (bV X) (k0_pay7 (bV X) k0_pay6 128#32) (k0_pay8 (bV X) k0_pay6 128#32) (k0_pay9 (bV X) k0_pay6 128#32)
/-- the block times its inverse scale, -/
def bPre (X : Vec F S128x256 .bf16) : FVec F S128x256 .bf16 :=
  k0_pay14 (k0_pay4 X) (bV X) (k0_pay7 (bV X) k0_pay6 128#32) (k0_pay8 (bV X) k0_pay6 128#32) (k0_pay9 (bV X) k0_pay6 128#32)
/-- its codes, -/
def bCodes (X : Vec F S128x256 .bf16) : FVec F S128x256 .fp8e4m3 := k0_pay15 (bPre X) (Scalar.ofBits .f32 0xC3E00000#32)
/-- and its codes at their scale. -/
def bXa (X : Vec F S128x256 .bf16) : Vec F S1x128x256 .bf16 :=
  k0_pay16 (k0_pay13 (bV X) (k0_pay7 (bV X) k0_pay6 128#32) (k0_pay8 (bV X) k0_pay6 128#32) (k0_pay9 (bV X) k0_pay6 128#32)) (bPre X) (Scalar.ofBits .f32 0xC3E00000#32)

/-- A grid point from its two coordinates. -/
def co (x : Fin 17) (y : Fin 5) : grid0.Coords := fun a => match a with | ⟨0, _⟩ => x | ⟨1, _⟩ => y

theorem co_eq (i : grid0.Coords) : i = co (i 0) (i 1) := by
  funext a
  match a with
  | ⟨0, _⟩ => rfl
  | ⟨1, _⟩ => rfl

/-- Where the body stores a block into the scratch, for each row of blocks; -/
def offA : Fin 8 → grid0.Coords → BitVec 32 → Fin 3 → ℕ :=
  ![k0_off3, k0_off5, k0_off7, k0_off9, k0_off11, k0_off13, k0_off15, k0_off17]
/-- and where it loads a weight scale, for each group. -/
def offW : Fin 20 → grid0.Coords → BitVec 32 → Fin 2 → ℕ :=
  ![k0_off18, k0_off19, k0_off20, k0_off21, k0_off22, k0_off23, k0_off24, k0_off25, k0_off26, k0_off27,
    k0_off28, k0_off29, k0_off30, k0_off31, k0_off32, k0_off33, k0_off34, k0_off35, k0_off36, k0_off37]

theorem offA_co : ∀ (x : Fin 17) (y : Fin 5) (b : Fin 8) (g : Fin 4),
    offA b (co x y) (BitVec.ofNat 32 (256 * g.val)) = ![x.val % 2, 128 * b.val, 1024 * y.val + 256 * g.val] := by decide +kernel
theorem offW_co : ∀ (x : Fin 17) (y : Fin 5) (b : Fin 20) (g : Fin 7),
    offW b (co x y) (BitVec.ofNat 32 g.val) = ![b.val, 7 * y.val + g.val] := by decide +kernel
theorem off38_co : ∀ (x : Fin 17) (y : Fin 5), k0_off38 (co x y) = ![(x.val + 1) % 2, 0, 0] := by decide +kernel

theorem offA_eq (i : grid0.Coords) (b : Fin 8) (g : Fin 4) :
    offA b i (BitVec.ofNat 32 (256 * g.val)) = ![(i 0).val % 2, 128 * b.val, 1024 * (i 1).val + 256 * g.val] := by
  have h := offA_co (i 0) (i 1) b g
  rwa [← co_eq] at h
theorem offW_eq (i : grid0.Coords) (b : Fin 20) (g : Fin 7) :
    offW b i (BitVec.ofNat 32 g.val) = ![b.val, 7 * (i 1).val + g.val] := by
  have h := offW_co (i 0) (i 1) b g
  rwa [← co_eq] at h
theorem off38_eq (i : grid0.Coords) : k0_off38 i = ![((i 0).val + 1) % 2, 0, 0] := by
  have h := off38_co (i 0) (i 1)
  rwa [← co_eq] at h

theorem inbA (i : grid0.Coords) (b : Fin 8) (g : Fin 4) : ∀ a, offA b i (BitVec.ofNat 32 (256 * g.val)) a + S1x128x256.size a ≤ S2x1024x5120.size a := by
  rw [offA_eq]
  have h1 : (i 1).val < 5 := (i 1).isLt
  intro a
  match a with
  | ⟨0, _⟩ => show (i 0).val % 2 + 1 ≤ 2; omega
  | ⟨1, _⟩ => show 128 * b.val + 128 ≤ 1024; omega
  | ⟨2, _⟩ => show 1024 * (i 1).val + 256 * g.val + 256 ≤ 5120; omega
theorem inbW (i : grid0.Coords) (b : Fin 20) (g : Fin 7) : ∀ a, offW b i (BitVec.ofNat 32 g.val) a + S1x1.size a ≤ S20x35.size a := by
  rw [offW_eq]
  have h1 : (i 1).val < 5 := (i 1).isLt
  intro a
  match a with
  | ⟨0, _⟩ => show b.val + 1 ≤ 20; omega
  | ⟨1, _⟩ => show 7 * (i 1).val + g.val + 1 ≤ 35; omega

section body
variable (i : grid0.Coords) (arg2 : Memref sig .tc .vmem S1024x1024 .bf16) (harg2 : arg2.IsWhole) (arg3 : Memref sig .tc .vmem S5120x1792 .fp8e4m3) (harg3 : arg3.IsWhole) (arg4 : Memref sig .tc .smem S20x35 .f32) (harg4 : arg4.IsWhole) (arg5 : Memref sig .tc .vmem S1024x1792 .bf16) (harg5 : arg5.IsWhole) (arg6 : Memref sig .tc .vmem S1024x1024 .fp8e4m3) (harg6 : arg6.IsWhole) (arg7 : Memref sig .tc .vmem S8x20 .f32) (harg7 : arg7.IsWhole) (arg8 : Memref sig .tc .vmem S2x1024x5120 .bf16) (harg8 : arg8.IsWhole) (arg9 : Memref sig .tc .vmem S2x5120x256 .bf16) (harg9 : arg9.IsWhole)

/-- Which of the pieces, of the codes and of the scratch, holds rows `128 b` on and columns `256 g` on. -/
theorem inbX (p : Fin 32) : ∀ a, (![128 * (p.val / 4), 256 * (p.val % 4)] : Fin 2 → ℕ) a + S128x256.size a ≤ S1024x1024.size a := by
  decide +revert
/-- Block `p` of a row block. -/
abbrev rX (p : Fin 32) : Rect S1024x1024 := Rect.unit (s := S1024x1024) ![128 * (p.val / 4), 256 * (p.val % 4)] S128x256.size (inbX p)
/-- The block of a row block there. -/
def blk (x : Vec F S1024x1024 .bf16) (p : Fin 32) : Vec F S128x256 .bf16 := fun z => x ((rX p).emb z)

/-- The pieces the body stores into the codes, the last stored first, from the blocks; -/
def lX (B : Fin 32 → Vec F S128x256 .bf16) : (n : ℕ) → n ≤ 32 → List (View.Piece (Elt F) S1024x1024 .fp8e4m3)
  | 0, _ => []
  | n + 1, h => ⟨rX ⟨n, h⟩, bCodes (B ⟨n, h⟩)⟩ :: lX B n (Nat.le_of_succ_le h)
/-- those it stores into the scratch; -/
def lA (i : grid0.Coords) (B : Fin 32 → Vec F S128x256 .bf16) : (n : ℕ) → n ≤ 32 → List (View.Piece (Elt F) S2x1024x5120 .bf16)
  | 0, _ => []
  | n + 1, h => ⟨Rect.unit (s := S2x1024x5120) (offA ⟨n / 4, by omega⟩ i (BitVec.ofNat 32 (256 * (n % 4)))) S1x128x256.size (inbA i ⟨n / 4, by omega⟩ ⟨n % 4, by omega⟩),
      bXa (B ⟨n, h⟩)⟩ :: lA i B n (Nat.le_of_succ_le h)
/-- and the scales, block after block put in their places. -/
def accS (i : grid0.Coords) (B : Fin 32 → Vec F S128x256 .bf16) (s0 : FVec F S8x20 .f32) : (n : ℕ) → n ≤ 32 → FVec F S8x20 .f32
  | 0, _ => s0
  | n + 1, h =>
    select (andi (cmpi .eq (iota .tc S8x20 32 [0] iota_S8x20_d0_w32) (broadcast S8x20 (BitVec.ofNat 32 (n / 4))))
        (cmpi .eq (iota .tc S8x20 32 [1] iota_S8x20_d1_w32) (broadcast S8x20 (Scalar.addi (Scalar.muli (BitVec.ofNat 32 (i 1).val) 4#32) (BitVec.ofNat 32 (n % 4))))))
      (extractStridedSlice S8x20 ![0, 0] (bScale (B ⟨n, h⟩)) slices_S8x128_o0_0_S8x20) (accS i B s0 n (Nat.le_of_succ_le h))

set_option maxHeartbeats 0 in
theorem runA_pieces (c : Dev nD) (h : k0_cond1 i = 1#1) (f2 : Buf (Elt F) (arg2.view.loc (c : Thread nD τ))) (f6 : Buf (Elt F) (arg6.view.loc (c : Thread nD τ))) (f7 : Buf (Elt F) (arg7.view.loc (c : Thread nD τ))) (f8 : Buf (Elt F) (arg8.view.loc (c : Thread nD τ))) :
  (runA i arg2 harg2 arg3 harg3 arg4 harg4 arg5 harg5 arg6 harg6 arg7 harg7 arg8 harg8 arg9 harg9 c h f2 f6 f7 f8).1 = (arg6.view.writes (Elt F) f6 (lX (blk (arg2.view.read (Elt F) f2)) 32 le_rfl),
    arg7.view.writes (Elt F) f7 [⟨Rect.unit (s := S8x20) ![0, 0] S8x20.size inb_S8x20_S8x20_0_0,
      accS i (blk (arg2.view.read (Elt F) f2)) (k0_pay3 (View.readAt (Elt F) arg7.view (Rect.unit (s := S8x20) ![0, 0] S8x20.size inb_S8x20_S8x20_0_0).toLoadRect f7)) 32 le_rfl⟩],
    arg8.view.writes (Elt F) f8 (lA i (blk (arg2.view.read (Elt F) f2)) 32 le_rfl)) := by
  refine Prod.ext ?_ (Prod.ext ?_ ?_)
  · rfl
  · rfl
  · rfl

end body
end Cert.KernelIdeal.Hand
end
-- ==== Proof.Tiles.lean ====
module

public import proofs.«01_k».proof.Proof.Pieces

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (UR sig nD τ) ℕ

section body
variable (i : grid0.Coords) (arg2 : Memref sig .tc .vmem S1024x1024 .bf16) (harg2 : arg2.IsWhole) (arg3 : Memref sig .tc .vmem S5120x1792 .fp8e4m3) (harg3 : arg3.IsWhole) (arg4 : Memref sig .tc .smem S20x35 .f32) (harg4 : arg4.IsWhole) (arg5 : Memref sig .tc .vmem S1024x1792 .bf16) (harg5 : arg5.IsWhole) (arg6 : Memref sig .tc .vmem S1024x1024 .fp8e4m3) (harg6 : arg6.IsWhole) (arg7 : Memref sig .tc .vmem S8x20 .f32) (harg7 : arg7.IsWhole) (arg8 : Memref sig .tc .vmem S2x1024x5120 .bf16) (harg8 : arg8.IsWhole) (arg9 : Memref sig .tc .vmem S2x5120x256 .bf16) (harg9 : arg9.IsWhole)
theorem inbT (q : Fin 140) : ∀ a, (![q.val / 20 % 2, 256 * (q.val % 20), 0] : Fin 3 → ℕ) a + S1x256x256.size a ≤ S2x5120x256.size a := by
  intro a
  match a with
  | ⟨0, _⟩ => show q.val / 20 % 2 + 1 ≤ 2; omega
  | ⟨1, _⟩ => show 256 * (q.val % 20) + 256 ≤ 5120; omega
  | ⟨2, _⟩ => show 0 + 256 ≤ 256; omega
theorem inbL (q : Fin 140) : ∀ a, (![256 * (q.val % 20), 256 * (q.val / 20)] : Fin 2 → ℕ) a + S256x256.size a ≤ S5120x1792.size a := by
  intro a
  match a with
  | ⟨0, _⟩ => show 256 * (q.val % 20) + 256 ≤ 5120; omega
  | ⟨1, _⟩ => show 256 * (q.val / 20) + 256 ≤ 1792; omega
theorem inbV (j : Fin 7) : ∀ a, (![j.val % 2, 0, 0] : Fin 3 → ℕ) a + S1x5120x256.size a ≤ S2x5120x256.size a := by
  decide +revert
theorem inbY (j : Fin 7) : ∀ a, (![0, 256 * j.val] : Fin 2 → ℕ) a + S1024x256.size a ≤ S1024x1792.size a := by
  decide +revert

/-- The pieces the body stores into the weights' scratch, the last stored first, -/
def lW (c : Dev nD) (f3 : Buf (Elt F) (arg3.view.loc (c : Thread nD τ))) (f4 : Buf (Elt F) (arg4.view.loc (c : Thread nD τ))) :
    (n : ℕ) → n ≤ 140 → List (View.Piece (Elt F) S2x5120x256 .bf16)
  | 0, _ => []
  | n + 1, h => ⟨Rect.unit (s := S2x5120x256) ![n / 20 % 2, 256 * (n % 20), 0] S1x256x256.size (inbT ⟨n, h⟩),
      k0_pay407 (View.readAt (Elt F) arg4.view (Rect.unit (s := S20x35) (offW ⟨n % 20, by omega⟩ i (BitVec.ofNat 32 (n / 20))) S1x1.size (inbW i ⟨n % 20, by omega⟩ ⟨n / 20, by omega⟩)).toLoadRect f4 (Shape.Idx.first (Nat.lt_of_lt_of_eq Nat.zero_lt_one numel1_S1x1.symm)))
        (View.readAt (Elt F) arg3.view (Rect.unit (s := S5120x1792) ![256 * (n % 20), 256 * (n / 20)] S256x256.size (inbL ⟨n, h⟩)).toLoadRect f3)⟩
      :: lW c f3 f4 n (Nat.le_of_succ_le h)
/-- and those it stores into the product. -/
def lY (c : Dev nD) (h' : k0_cond2 i = 1#1) (f3 : Buf (Elt F) (arg3.view.loc (c : Thread nD τ))) (f4 : Buf (Elt F) (arg4.view.loc (c : Thread nD τ))) (f8 : Buf (Elt F) (arg8.view.loc (c : Thread nD τ))) :
    (n : ℕ) → n ≤ 7 → List (View.Piece (Elt F) S1024x1792 .bf16)
  | 0, _ => []
  | n + 1, h => ⟨Rect.unit (s := S1024x1792) ![0, 256 * n] S1024x256.size (inbY ⟨n, h⟩),
      k0_pay2 (k0_pay584 (View.readAt (Elt F) arg8.view (Rect.unit (s := S2x1024x5120) (k0_off38 i) S1x1024x5120.size (k0_off38_inb i h')).toLoadRect f8))
        (arg9.view.readCov (lW i arg3 arg4 c f3 f4 (20 * (n + 1)) (by omega)) (Rect.unit (s := S2x5120x256) ![n % 2, 0, 0] S1x5120x256.size (inbV ⟨n, h⟩)).toLoadRect)⟩
      :: lY c h' f3 f4 f8 n (Nat.le_of_succ_le h)

set_option maxHeartbeats 0 in
theorem runB_pieces (c : Dev nD) (h' : k0_cond2 i = 1#1) (f3 : Buf (Elt F) (arg3.view.loc (c : Thread nD τ))) (f4 : Buf (Elt F) (arg4.view.loc (c : Thread nD τ))) (f5 : Buf (Elt F) (arg5.view.loc (c : Thread nD τ))) (f8 : Buf (Elt F) (arg8.view.loc (c : Thread nD τ))) (f9 : Buf (Elt F) (arg9.view.loc (c : Thread nD τ))) :
  (runB i arg2 harg2 arg3 harg3 arg4 harg4 arg5 harg5 arg6 harg6 arg7 harg7 arg8 harg8 arg9 harg9 c h' f3 f4 f5 f8 f9).1.1 = arg5.view.writes (Elt F) f5 (lY i arg3 arg4 arg8 arg9 c h' f3 f4 f8 7 le_rfl) := by
  rfl

end body
end Cert.KernelIdeal.Hand
end
-- ==== Proof.Steps.lean ====
module

public import proofs.«01_k».proof.Proof.Tiles
public import Idealize.ShloMosaic.Lib.Pointwise
public import Idealize.ShloMosaic.Lib.VecWindow

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (UR sig nD τ) ℕ

/-- Where block `p` of a grid point lies in the scratch. -/
theorem inbA' (i : grid0.Coords) (p : Fin 32) : ∀ a, (![(i 0).val % 2, 128 * (p.val / 4), 1024 * (i 1).val + 256 * (p.val % 4)] : Fin 3 → ℕ) a + S1x128x256.size a ≤ S2x1024x5120.size a := by
  have h1 : (i 1).val < 5 := (i 1).isLt
  intro a
  match a with
  | ⟨0, _⟩ => show (i 0).val % 2 + 1 ≤ 2; omega
  | ⟨1, _⟩ => show 128 * (p.val / 4) + 128 ≤ 1024; omega
  | ⟨2, _⟩ => show 1024 * (i 1).val + 256 * (p.val % 4) + 256 ≤ 5120; omega
/-- The rectangle of block `p` of a grid point in the scratch. -/
abbrev rA (i : grid0.Coords) (p : Fin 32) : Rect S2x1024x5120 :=
  Rect.unit (s := S2x1024x5120) ![(i 0).val % 2, 128 * (p.val / 4), 1024 * (i 1).val + 256 * (p.val % 4)] S1x128x256.size (inbA' i p)
/-- The rectangle of column block `j` in the product. -/
abbrev rY (j : Fin 7) : Rect S1024x1792 := Rect.unit (s := S1024x1792) ![0, 256 * j.val] S1024x256.size (inbY j)
/-- The half of the scratch the multiplying half reads. -/
theorem inbH (i : grid0.Coords) : ∀ a, (![((i 0).val + 1) % 2, 0, 0] : Fin 3 → ℕ) a + S1x1024x5120.size a ≤ S2x1024x5120.size a := by
  intro a
  match a with
  | ⟨0, _⟩ => show ((i 0).val + 1) % 2 + 1 ≤ 2; omega
  | ⟨1, _⟩ => show 0 + 1024 ≤ 1024; omega
  | ⟨2, _⟩ => show 0 + 5120 ≤ 5120; omega
/-- Its rectangle. -/
abbrev rH (i : grid0.Coords) : Rect S2x1024x5120 := Rect.unit (s := S2x1024x5120) ![((i 0).val + 1) % 2, 0, 0] S1x1024x5120.size (inbH i)

/-- The scale of a weight block: row `k / 256`, column `7 n + j`. -/
def wScale (i : grid0.Coords) (s : Vec F S20x35 .f32) (q : Fin 20) (j : Fin 7) : Elt F .f32 :=
  s (ix2 q ⟨7 * (i 1).val + j.val, by have h1 : (i 1).val < 5 := (i 1).isLt; omega⟩)
/-- A weight block. -/
def wBlock (w : Vec F S5120x1792 .fp8e4m3) (q : Fin 20) (j : Fin 7) : Vec F S256x256 .fp8e4m3 :=
  fun z => w (ix2 ⟨256 * q.val + (z 0).val, by have h1 : (z 0).val < 256 := (z 0).isLt; omega⟩ ⟨256 * j.val + (z 1).val, by have h1 : (z 1).val < 256 := (z 1).isLt; omega⟩)
/-- The weights' column block `j` at its scales. -/
def waTile (i : grid0.Coords) (w : Vec F S5120x1792 .fp8e4m3) (s : Vec F S20x35 .f32) (j : Fin 7) : Vec F S1x5120x256 .bf16 :=
  fun z => k0_pay407 (wScale i s ⟨(z 1).val / 256, by have h1 : (z 1).val < 5120 := (z 1).isLt; omega⟩ j)
    (wBlock w ⟨(z 1).val / 256, by have h1 : (z 1).val < 5120 := (z 1).isLt; omega⟩ j)
    (ix3 0 ⟨(z 1).val % 256, Nat.mod_lt _ (by decide)⟩ (z 2))

/-- What the quantising half makes. -/
def QA (i : grid0.Coords) (x : Vec F S1024x1024 .bf16) (c1 : Vec F S1024x1024 .fp8e4m3) (s0 s1 : Vec F S8x20 .f32) (a0 a1 : Vec F S2x1024x5120 .bf16) : Prop :=
  (∀ p z, c1 ((rX p).emb z) = bCodes (blk x p) z) ∧ s1 = accS i (blk x) s0 32 le_rfl
    ∧ (∀ p z, a1 ((rA i p).emb z) = bXa (blk x p) z) ∧ ∀ y, (∀ p, y ∉ (rA i p).set) → a1 y = a0 y
/-- What the multiplying half makes. -/
def QB (i : grid0.Coords) (w : Vec F S5120x1792 .fp8e4m3) (s : Vec F S20x35 .f32) (y1 : Vec F S1024x1792 .bf16) (a1 : Vec F S2x1024x5120 .bf16) : Prop :=
  ∀ j z, y1 ((rY j).emb z) = k0_pay2 (k0_pay584 (fun z => a1 ((rH i).emb z))) (waTile i w s j) z

/-- A piece is named by its offsets. -/
theorem piece_congr {s : Shape} {e : EltTy} {off off' size : Fin s.rank → ℕ} (h : off = off') (inb : ∀ a, off a + size a ≤ s.size a) (inb' : ∀ a, off' a + size a ≤ s.size a)
    (w : (Rect.unit off' size inb').shape.Idx → Elt F e) :
    (⟨Rect.unit off size inb, w⟩ : View.Piece (Elt F) s e) = ⟨Rect.unit off' size inb', w⟩ := by
  subst h; rfl

theorem lX_read {sig' : RefSig} {κ : Kind} {sp : Space} (v : View sig' κ sp S1024x1024 .fp8e4m3) (f : v.ty.Contents (Elt F)) (B : Fin 32 → Vec F S128x256 .bf16) (p : Fin 32) (z) :
    ∀ n (h : n ≤ 32), p.val < n → v.read (Elt F) (v.writes (Elt F) f (lX B n h)) ((rX p).emb z) = bCodes (B p) z := by
  intro n
  induction n with
  | zero => intro _ hp; omega
  | succ n ih =>
    intro h hp
    rcases Nat.lt_succ_iff_lt_or_eq.mp hp with hp | hp
    · refine (View.read_writes_cons_miss v f _ _ _ ?_).trans (ih _ hp)
      have h0 : (z 0).val < 128 := (z 0).isLt
      have h1 : (z 1).val < 256 := (z 1).isLt
      have e0 : (((rX p).emb z) 0).val = 128 * (p.val / 4) + (z 0).val := by show _ + 1 * _ = _; rw [Nat.one_mul]; rfl
      have e1 : (((rX p).emb z) 1).val = 256 * (p.val % 4) + (z 1).val := by show _ + 1 * _ = _; rw [Nat.one_mul]; rfl
      by_cases hq : p.val / 4 = n / 4
      · exact Rect.not_mem_set_of_axis _ _ 1 (256 * (n % 4)) 256 rfl rfl rfl (by rw [e1]; omega)
      · exact Rect.not_mem_set_of_axis _ _ 0 (128 * (n / 4)) 128 rfl rfl rfl (by rw [e0]; omega)
    · obtain rfl : p = ⟨n, h⟩ := Fin.ext hp
      exact View.read_writes_cons_emb v f _ _ _ _

theorem lA_cons (i : grid0.Coords) (B : Fin 32 → Vec F S128x256 .bf16) (n : ℕ) (h : n + 1 ≤ 32) :
    lA i B (n + 1) h = (⟨rA i ⟨n, h⟩, bXa (B ⟨n, h⟩)⟩ : View.Piece (Elt F) S2x1024x5120 .bf16) :: lA i B n (Nat.le_of_succ_le h) := by
  show _ :: _ = _
  refine congrArg (· :: lA i B n (Nat.le_of_succ_le h)) ?_
  exact piece_congr (offA_eq i ⟨n / 4, by omega⟩ ⟨n % 4, by omega⟩) _ _ _

theorem lA_read {sig' : RefSig} {κ : Kind} {sp : Space} (v : View sig' κ sp S2x1024x5120 .bf16) (f : v.ty.Contents (Elt F)) (i : grid0.Coords) (B : Fin 32 → Vec F S128x256 .bf16) (p : Fin 32) (z) :
    ∀ n (h : n ≤ 32), p.val < n → v.read (Elt F) (v.writes (Elt F) f (lA i B n h)) ((rA i p).emb z) = bXa (B p) z := by
  intro n
  induction n with
  | zero => intro _ hp; omega
  | succ n ih =>
    intro h hp
    rw [lA_cons]
    rcases Nat.lt_succ_iff_lt_or_eq.mp hp with hp | hp
    · refine (View.read_writes_cons_miss v f _ _ _ ?_).trans (ih _ hp)
      have h0 : (z 1).val < 128 := (z 1).isLt
      have h1 : (z 2).val < 256 := (z 2).isLt
      have e0 : (((rA i p).emb z) 1).val = 128 * (p.val / 4) + (z 1).val := by show _ + 1 * _ = _; rw [Nat.one_mul]; rfl
      have e1 : (((rA i p).emb z) 2).val = 1024 * (i 1).val + 256 * (p.val % 4) + (z 2).val := by show _ + 1 * _ = _; rw [Nat.one_mul]; rfl
      by_cases hq : p.val / 4 = n / 4
      · exact Rect.not_mem_set_of_axis _ _ 2 (1024 * (i 1).val + 256 * (n % 4)) 256 rfl rfl rfl (by rw [e1]; omega)
      · exact Rect.not_mem_set_of_axis _ _ 1 (128 * (n / 4)) 128 rfl rfl rfl (by rw [e0]; omega)
    · obtain rfl : p = ⟨n, h⟩ := Fin.ext hp
      exact View.read_writes_cons_emb v f _ _ _ _

theorem lA_miss {sig' : RefSig} {κ : Kind} {sp : Space} (v : View sig' κ sp S2x1024x5120 .bf16) (f : v.ty.Contents (Elt F)) (i : grid0.Coords) (B : Fin 32 → Vec F S128x256 .bf16) (y : S2x1024x5120.Idx) (hy : ∀ p, y ∉ (rA i p).set) :
    ∀ n (h : n ≤ 32), v.read (Elt F) (v.writes (Elt F) f (lA i B n h)) y = v.read (Elt F) f y := by
  intro n
  induction n with
  | zero => intro _; rfl
  | succ n ih =>
    intro h
    rw [lA_cons]
    have hn := hy ⟨n, h⟩
    rw [View.read_writes_cons_miss v f (⟨rA i ⟨n, h⟩, bXa (B ⟨n, h⟩)⟩ : View.Piece (Elt F) S2x1024x5120 .bf16) (lA i B n (Nat.le_of_succ_le h)) y hn]
    exact ih (Nat.le_of_succ_le h)

section body
variable (i : grid0.Coords) (arg2 : Memref sig .tc .vmem S1024x1024 .bf16) (harg2 : arg2.IsWhole) (arg3 : Memref sig .tc .vmem S5120x1792 .fp8e4m3) (harg3 : arg3.IsWhole) (arg4 : Memref sig .tc .smem S20x35 .f32) (harg4 : arg4.IsWhole) (arg5 : Memref sig .tc .vmem S1024x1792 .bf16) (harg5 : arg5.IsWhole) (arg6 : Memref sig .tc .vmem S1024x1024 .fp8e4m3) (harg6 : arg6.IsWhole) (arg7 : Memref sig .tc .vmem S8x20 .f32) (harg7 : arg7.IsWhole) (arg8 : Memref sig .tc .vmem S2x1024x5120 .bf16) (harg8 : arg8.IsWhole) (arg9 : Memref sig .tc .vmem S2x5120x256 .bf16) (harg9 : arg9.IsWhole)

set_option maxHeartbeats 0 in
/-- The quantising half's run makes `QA`. -/
theorem runA_rel (c : Dev nD) (h : k0_cond1 i = 1#1) (f2 : Buf (Elt F) (arg2.view.loc (c : Thread nD τ))) (f6 : Buf (Elt F) (arg6.view.loc (c : Thread nD τ))) (f7 : Buf (Elt F) (arg7.view.loc (c : Thread nD τ))) (f8 : Buf (Elt F) (arg8.view.loc (c : Thread nD τ))) :
    QA i (arg2.view.read (Elt F) f2) (arg6.view.read (Elt F) (runA i arg2 harg2 arg3 harg3 arg4 harg4 arg5 harg5 arg6 harg6 arg7 harg7 arg8 harg8 arg9 harg9 c h f2 f6 f7 f8).1.1)
      (arg7.view.read (Elt F) f7) (arg7.view.read (Elt F) (runA i arg2 harg2 arg3 harg3 arg4 harg4 arg5 harg5 arg6 harg6 arg7 harg7 arg8 harg8 arg9 harg9 c h f2 f6 f7 f8).1.2.1)
      (arg8.view.read (Elt F) f8) (arg8.view.read (Elt F) (runA i arg2 harg2 arg3 harg3 arg4 harg4 arg5 harg5 arg6 harg6 arg7 harg7 arg8 harg8 arg9 harg9 c h f2 f6 f7 f8).1.2.2) := by
  have e := runA_pieces i arg2 harg2 arg3 harg3 arg4 harg4 arg5 harg5 arg6 harg6 arg7 harg7 arg8 harg8 arg9 harg9 c h f2 f6 f7 f8
  have e6 := congrArg (fun w => w.1) e
  have e7 := congrArg (fun w => w.2.1) e
  have e8 := congrArg (fun w => w.2.2) e
  dsimp only at e6 e7 e8
  rw [e6, e7, e8]
  clear e e6 e7 e8
  unfold QA
  generalize blk (arg2.view.read (Elt F) f2) = B
  refine ⟨?_, ?_, ?_, ?_⟩
  · intro p z; exact lX_read arg6.view f6 B p z 32 le_rfl p.isLt
  rotate_left
  · intro p z
    have := lA_read arg8.view f8 i B p z 32 le_rfl p.isLt

    exact this
  · intro y hy; exact lA_miss arg8.view f8 i B y hy 32 le_rfl
  have e : k0_pay3 (View.readAt (Elt F) arg7.view (Rect.unit (s := S8x20) ![0, 0] S8x20.size inb_S8x20_S8x20_0_0).toLoadRect f7) = arg7.view.read (Elt F) f7 := by
    refine (shapeCast_self _ _).trans ?_
    funext z
    exact congrArg (arg7.view.read (Elt F) f7) (funext fun a => Fin.ext (by
      match a with
      | ⟨0, _⟩ => show 0 + 1 * _ = _; omega
      | ⟨1, _⟩ => show 0 + 1 * _ = _; omega))
  rw [e]
  funext z
  refine View.read_writes_cons_hit_of_coords arg7.view f7 (Rect.unit (s := S8x20) ![0, 0] S8x20.size inb_S8x20_S8x20_0_0) (accS i B (arg7.view.read (Elt F) f7) 32 le_rfl) [] z z (fun a => ?_)
  match a with
  | ⟨0, _⟩ => show (z 0).val = 0 + 1 * (z 0).val; omega
  | ⟨1, _⟩ => show (z 1).val = 0 + 1 * (z 1).val; omega

/-- A stored weight block is the block at its scale. -/
theorem lW_pay (c : Dev nD) (f3 : Buf (Elt F) (arg3.view.loc (c : Thread nD τ))) (f4 : Buf (Elt F) (arg4.view.loc (c : Thread nD τ))) (q : Fin 20) (j : Fin 7)
    (inb : ∀ a, (![256 * q.val, 256 * j.val] : Fin 2 → ℕ) a + S256x256.size a ≤ S5120x1792.size a) :
    k0_pay407 (View.readAt (Elt F) arg4.view (Rect.unit (s := S20x35) (offW q i (BitVec.ofNat 32 j.val)) S1x1.size (inbW i q j)).toLoadRect f4 (Shape.Idx.first (Nat.lt_of_lt_of_eq Nat.zero_lt_one numel1_S1x1.symm)))
        (View.readAt (Elt F) arg3.view (Rect.unit (s := S5120x1792) ![256 * q.val, 256 * j.val] S256x256.size inb).toLoadRect f3)
      = k0_pay407 (wScale i (arg4.view.read (Elt F) f4) q j) (wBlock (arg3.view.read (Elt F) f3) q j) := by
  have h1 : (i 1).val < 5 := (i 1).isLt
  refine congrArg₂ k0_pay407 ?_ ?_
  · refine congrArg (arg4.view.read (Elt F) f4) (funext fun a => Fin.ext ?_)
    have e := offW_eq i q j
    match a with
    | ⟨0, _⟩ => show offW q i (BitVec.ofNat 32 j.val) 0 + 1 * 0 = q.val; rw [e]; rfl
    | ⟨1, _⟩ => show offW q i (BitVec.ofNat 32 j.val) 1 + 1 * 0 = 7 * (i 1).val + j.val; rw [e]; rfl
  · funext z
    refine congrArg (arg3.view.read (Elt F) f3) (funext fun a => Fin.ext ?_)
    match a with
    | ⟨0, _⟩ => show 256 * q.val + 1 * (z 0).val = 256 * q.val + (z 0).val; omega
    | ⟨1, _⟩ => show 256 * j.val + 1 * (z 1).val = 256 * j.val + (z 1).val; omega

/-- The newest block of a slot of the weights' scratch that covers a place is read there. -/
theorem lW_read {sig' : RefSig} {κ : Kind} {sp : Space} (v : View sig' κ sp S2x5120x256 .bf16) (f : v.ty.Contents (Elt F))
    (c : Dev nD) (f3 : Buf (Elt F) (arg3.view.loc (c : Thread nD τ))) (f4 : Buf (Elt F) (arg4.view.loc (c : Thread nD τ))) (q : Fin 20) (j : Fin 7)
    (y : S2x5120x256.Idx) (z : S1x256x256.Idx) (h0 : (y 0).val = j.val % 2) (h1 : (y 1).val = 256 * q.val + (z 1).val) (h2 : (y 2).val = (z 2).val) :
    ∀ n (h : n ≤ 140), 20 * j.val + q.val < n → n ≤ 20 * (j.val + 1) →
      v.read (Elt F) (v.writes (Elt F) f (lW i arg3 arg4 c f3 f4 n h)) y = k0_pay407 (wScale i (arg4.view.read (Elt F) f4) q j) (wBlock (arg3.view.read (Elt F) f3) q j) z := by
  intro n
  induction n with
  | zero => intro _ hp; omega
  | succ n ih =>
    intro h hp hn
    have z0 : (z 0).val < 1 := (z 0).isLt
    have z1 : (z 1).val < 256 := (z 1).isLt
    rcases Nat.lt_succ_iff_lt_or_eq.mp hp with hp | hp
    · refine (View.read_writes_cons_miss_of_axis v f _ _ y 1 (256 * (n % 20)) 256 rfl rfl rfl ?_).trans (ih _ hp (by omega))
      rw [h1]; omega
    · have eq : n % 20 = q.val := by omega
      have ej : n / 20 = j.val := by omega
      have b20 : n % 20 < 20 := by omega
      have b7 : n / 20 < 7 := by omega
      have hq : q = ⟨n % 20, b20⟩ := Fin.ext eq.symm
      have hj : j = ⟨n / 20, b7⟩ := Fin.ext ej.symm
      rw [hq, hj, ← lW_pay i arg3 arg4 c f3 f4 _ _ (inbL ⟨n, h⟩)]
      refine View.read_writes_cons_hit_of_coords v f (Rect.unit (s := S2x5120x256) ![n / 20 % 2, 256 * (n % 20), 0] S1x256x256.size (inbT ⟨n, h⟩)) _ _ z y (fun a => ?_)
      match a with
      | ⟨0, _⟩ => show (y 0).val = n / 20 % 2 + 1 * (z 0).val; rw [h0, ← ej]; omega
      | ⟨1, _⟩ => show (y 1).val = 256 * (n % 20) + 1 * (z 1).val; rw [h1, eq]; omega
      | ⟨2, _⟩ => show (y 2).val = 0 + 1 * (z 2).val; rw [h2]; omega

/-- A loaded slot of the weights' scratch is the weights' column block at its scales. -/
theorem lW_tile (c : Dev nD) (f3 : Buf (Elt F) (arg3.view.loc (c : Thread nD τ))) (f4 : Buf (Elt F) (arg4.view.loc (c : Thread nD τ))) (j : Fin 7) (h : 20 * (j.val + 1) ≤ 140) :
    arg9.view.readCov (lW i arg3 arg4 c f3 f4 (20 * (j.val + 1)) h) (Rect.unit (s := S2x5120x256) ![j.val % 2, 0, 0] S1x5120x256.size (inbV j)).toLoadRect
      = waTile i (arg3.view.read (Elt F) f3) (arg4.view.read (Elt F) f4) j := by
  funext z
  have z0 : (z 0).val < 1 := (z 0).isLt
  have z1 : (z 1).val < 5120 := (z 1).isLt
  refine lW_read i arg3 arg4 arg9.view _ c f3 f4 ⟨(z 1).val / 256, by omega⟩ j _ (ix3 0 ⟨(z 1).val % 256, Nat.mod_lt _ (by decide)⟩ (z 2)) ?_ ?_ ?_ _ h (by show 20 * j.val + (z 1).val / 256 < _; omega) le_rfl
  · show j.val % 2 + 1 * (z 0).val = j.val % 2; omega
  · show 0 + 1 * (z 1).val = 256 * ((z 1).val / 256) + (z 1).val % 256; omega
  · show 0 + 1 * (z 2).val = (z 2).val; omega

theorem lY_read {sig' : RefSig} {κ : Kind} {sp : Space} (v : View sig' κ sp S1024x1792 .bf16) (f : v.ty.Contents (Elt F)) (c : Dev nD) (h' : k0_cond2 i = 1#1)
    (f3 : Buf (Elt F) (arg3.view.loc (c : Thread nD τ))) (f4 : Buf (Elt F) (arg4.view.loc (c : Thread nD τ))) (f8 : Buf (Elt F) (arg8.view.loc (c : Thread nD τ))) (j : Fin 7) (z : S1024x256.Idx) :
    ∀ n (h : n ≤ 7), j.val < n → v.read (Elt F) (v.writes (Elt F) f (lY i arg3 arg4 arg8 arg9 c h' f3 f4 f8 n h)) ((rY j).emb z)
      = k0_pay2 (k0_pay584 (fun z => arg8.view.read (Elt F) f8 ((rH i).emb z))) (waTile i (arg3.view.read (Elt F) f3) (arg4.view.read (Elt F) f4) j) z := by
  intro n
  induction n with
  | zero => intro _ hp; omega
  | succ n ih =>
    intro h hp
    rcases Nat.lt_succ_iff_lt_or_eq.mp hp with hp | hp
    · refine (View.read_writes_cons_miss_of_axis v f _ _ _ 1 (256 * n) 256 rfl rfl rfl ?_).trans (ih _ hp)
      have z1 : (z 1).val < 256 := (z 1).isLt
      have e1 : (((rY j).emb z) 1).val = 256 * j.val + (z 1).val := by show _ + 1 * _ = _; rw [Nat.one_mul]; rfl
      rw [e1]; omega
    · obtain rfl : j = ⟨n, h⟩ := Fin.ext hp
      refine (View.read_writes_cons_emb v f (rY ⟨n, h⟩) _ (lY i arg3 arg4 arg8 arg9 c h' f3 f4 f8 n (Nat.le_of_succ_le h)) z).trans ?_
      rw [View.readAt_unit arg8.view f8 (k0_off38_inb i h') (off38_eq i) (inbH i), lW_tile i arg3 arg4 arg9 c f3 f4 ⟨n, h⟩]
      rfl

set_option maxHeartbeats 0 in
/-- The multiplying half's run makes `QB`. -/
theorem runB_rel (c : Dev nD) (h' : k0_cond2 i = 1#1) (f3 : Buf (Elt F) (arg3.view.loc (c : Thread nD τ))) (f4 : Buf (Elt F) (arg4.view.loc (c : Thread nD τ))) (f5 : Buf (Elt F) (arg5.view.loc (c : Thread nD τ))) (f8 : Buf (Elt F) (arg8.view.loc (c : Thread nD τ))) (f9 : Buf (Elt F) (arg9.view.loc (c : Thread nD τ))) :
    QB i (arg3.view.read (Elt F) f3) (arg4.view.read (Elt F) f4) (arg5.view.read (Elt F) (runB i arg2 harg2 arg3 harg3 arg4 harg4 arg5 harg5 arg6 harg6 arg7 harg7 arg8 harg8 arg9 harg9 c h' f3 f4 f5 f8 f9).1.1) (arg8.view.read (Elt F) f8) := by
  rw [runB_pieces i arg2 harg2 arg3 harg3 arg4 harg4 arg5 harg5 arg6 harg6 arg7 harg7 arg8 harg8 arg9 harg9 c h' f3 f4 f5 f8 f9]
  intro j z
  exact lY_read i arg3 arg4 arg8 arg9 arg5.view f5 c h' f3 f4 f8 j z 7 le_rfl j.isLt

end body
end Cert.KernelIdeal.Hand
end
-- ==== Proof.Points.lean ====
module

public import proofs.«01_k».proof.Proof.Steps
public import Idealize.ShloMosaic.Lib.Pipeline.ValueKit
public import Idealize.ShloMosaic.Lib.Pointwise
public import Idealize.ShloMosaic.Lib.VecWindow

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (UR sig nD τ) ℕ

/-- What the body leaves, of what it found: each half under its condition. -/
def Rel (i : grid0.Coords) (x : Vec F S1024x1024 .bf16) (w : Vec F S5120x1792 .fp8e4m3) (s : Vec F S20x35 .f32) (y0 y1 : Vec F S1024x1792 .bf16) (c0 c1 : Vec F S1024x1024 .fp8e4m3) (s0 s1 : Vec F S8x20 .f32) (a0 a1 : Vec F S2x1024x5120 .bf16) : Prop :=
  (k0_cond1 i = 1#1 → QA i x c1 s0 s1 a0 a1) ∧ (¬ k0_cond1 i = 1#1 → c1 = c0 ∧ s1 = s0 ∧ a1 = a0)
    ∧ (k0_cond2 i = 1#1 → QB i w s y1 a1)

theorem cond1_co : ∀ (x : Fin 17) (y : Fin 5), k0_cond1 (co x y) = 1#1 ↔ x.val < 16 := by decide +kernel
theorem cond2_co : ∀ (x : Fin 17) (y : Fin 5), k0_cond2 (co x y) = 1#1 ↔ 0 < x.val := by decide +kernel
theorem cond1_iff (i : grid0.Coords) : k0_cond1 i = 1#1 ↔ (i 0).val < 16 := by
  have h := cond1_co (i 0) (i 1)
  rwa [← co_eq] at h
theorem cond2_iff (i : grid0.Coords) : k0_cond2 i = 1#1 ↔ 0 < (i 0).val := by
  have h := cond2_co (i 0) (i 1)
  rwa [← co_eq] at h
theorem coords0 : ∀ t : Fin grid0.N, (grid0.coords t 0).val = t.val / 5 := by decide +kernel
theorem coords1 : ∀ t : Fin grid0.N, (grid0.coords t 1).val = t.val % 5 := by decide +kernel

/-- Block row `b`, block column `g` of the activations. -/
def xb (X : Vec F S16384x5120 .bf16) (b g : ℕ) : Vec F S128x256 .bf16 := fun z =>
  X (ix2 ⟨(128 * b + (z 0).val) % 16384, Nat.mod_lt _ (by decide)⟩ ⟨(256 * g + (z 1).val) % 5120, Nat.mod_lt _ (by decide)⟩)
/-- A row block's codes at their scales. -/
def xaHalf (X : Vec F S16384x5120 .bf16) (r : ℕ) : Vec F S1x1024x5120 .bf16 := fun z =>
  bXa (xb X (8 * r + (z 1).val / 128) ((z 2).val / 256)) (ix3 0 ⟨(z 1).val % 128, Nat.mod_lt _ (by decide)⟩ ⟨(z 2).val % 256, Nat.mod_lt _ (by decide)⟩)

section pipeline
open Idealize.ShloMosaic.Pipeline
variable (m : (ℓ : Loc nD τ sig) → Buf (Elt F) ℓ)

/-- The activations, as rows. -/
abbrev XA (c : Dev nD) : Vec F S16384x5120 .bf16 := V m c main_v0

theorem index0 : ∀ t : Fin cfg0.N, win0_0.index t = ![min (t.val / 5) 15, if t.val / 5 < 16 then t.val % 5 else 4] := by decide +kernel

theorem blk_eq (c : Dev nD) (t : Fin cfg0.N) (h : t.val / 5 < 16) (p : Fin 32) :
    blk (iblk m c 0 t) p = xb (XA m c) (8 * (t.val / 5) + p.val / 4) (4 * (t.val % 5) + p.val % 4) := by
  funext z
  have z0 : (z 0).val < 128 := (z 0).isLt
  have z1 : (z 1).val < 256 := (z 1).isLt
  have e0 : (((rX p).emb z) 0).val = 128 * (p.val / 4) + (z 0).val := by show _ + 1 * _ = _; rw [Nat.one_mul]; rfl
  have e1 : (((rX p).emb z) 1).val = 256 * (p.val % 4) + (z 1).val := by show _ + 1 * _ = _; rw [Nat.one_mul]; rfl
  show V m c main_v0 _ = V m c main_v0 _
  refine congrArg (V m c main_v0) (funext fun a => Fin.ext ?_)
  have hi := index0 t
  match a with
  | ⟨0, _⟩ =>
    show win0_0.index t 0 * 1024 + 1 * (((rX p).emb z) 0).val = (128 * (8 * (t.val / 5) + p.val / 4) + (z 0).val) % 16384
    rw [hi, e0]
    show min (t.val / 5) 15 * 1024 + _ = _
    omega
  | ⟨1, _⟩ =>
    show win0_0.index t 1 * 1024 + 1 * (((rX p).emb z) 1).val = (256 * (4 * (t.val % 5) + p.val % 4) + (z 1).val) % 5120
    rw [hi, e1]
    show (if t.val / 5 < 16 then t.val % 5 else 4) * 1024 + _ = _
    rw [if_pos h]
    omega

/-- What the quantised activations in scratch hold before point `t`: every block of the row block at hand and of the one before. -/
def Inv (c : Dev nD) (t : ℕ) (a : Vec F S2x1024x5120 .bf16) : Prop :=
  ∀ u : Fin cfg0.N, u.val < t → u.val / 5 < 16 → t / 5 ≤ u.val / 5 + 1 → ∀ p z,
    a ((rA (grid0.coords u) p).emb z) = bXa (xb (XA m c) (8 * (u.val / 5) + p.val / 4) (4 * (u.val % 5) + p.val % 4)) z

theorem inv_zero (c : Dev nD) (a : Vec F S2x1024x5120 .bf16) : Inv m c 0 a := fun u h => absurd h (Nat.not_lt_zero _)

/-- What the body at point `t` leaves in the staging buffers, of what it found there. -/
def After (c : Dev nD) (w : Fin cfg0.W) (t : Fin cfg0.N) (Y X : (cfg0.win w).block.Idx → Elt F (cfg0.win w).elt) : Prop :=
  match w, Y, X with
  | ⟨0, _⟩, Y, X => X = Y
  | ⟨1, _⟩, Y, X => X = Y
  | ⟨2, _⟩, Y, X => X = Y
  | ⟨3, _⟩, Y, X => 5 ≤ t.val → ∀ j z, (X : Vec F S1024x1792 .bf16) ((rY j).emb z)
      = k0_pay2 (k0_pay584 (xaHalf (XA m c) (t.val / 5 - 1))) (waTile (grid0.coords t) (iblk m c 1 t) (iblk m c 2 t) j) z
  | ⟨4, _⟩, Y, X => (t.val / 5 < 16 → ∀ p z, (X : Vec F S1024x1024 .fp8e4m3) ((rX p).emb z) = bCodes (xb (XA m c) (8 * (t.val / 5) + p.val / 4) (4 * (t.val % 5) + p.val % 4)) z)
      ∧ (¬ t.val / 5 < 16 → X = Y)
  | ⟨5, _⟩, Y, X => (t.val / 5 < 16 → (X : Vec F S8x20 .f32) = accS (grid0.coords t) (fun p => xb (XA m c) (8 * (t.val / 5) + p.val / 4) (4 * (t.val % 5) + p.val % 4)) Y 32 le_rfl)
      ∧ (¬ t.val / 5 < 16 → X = Y)

/-- Blocks of different grid points of one row block, or of neighbouring ones, are apart in the scratch. -/
theorem rA_apart (u t : Fin cfg0.N) (h : u.val < t.val) (h' : t.val / 5 ≤ u.val / 5 + 1) (p q : Fin 32) (z) :
    (rA (grid0.coords u) p).emb z ∉ (rA (grid0.coords t) q).set := by
  have z0 : (z 0).val < 1 := (z 0).isLt
  have z2 : (z 2).val < 256 := (z 2).isLt
  have e0 : (((rA (grid0.coords u) p).emb z) 0).val = (grid0.coords u 0).val % 2 + (z 0).val := by show _ + 1 * _ = _; rw [Nat.one_mul]; rfl
  have e2 : (((rA (grid0.coords u) p).emb z) 2).val = 1024 * (grid0.coords u 1).val + 256 * (p.val % 4) + (z 2).val := by show _ + 1 * _ = _; rw [Nat.one_mul]; rfl
  have c0 := coords0 u
  have c1 := coords1 u
  have d0 := coords0 t
  have d1 := coords1 t
  by_cases hq : t.val / 5 = u.val / 5
  · exact Rect.not_mem_set_of_axis _ _ 2 (1024 * (grid0.coords t 1).val + 256 * (q.val % 4)) 256 rfl rfl rfl (by rw [e2]; omega)
  · exact Rect.not_mem_set_of_axis _ _ 0 ((grid0.coords t 0).val % 2) 1 rfl rfl rfl (by rw [e0]; omega)

/-- One point, of the body's relation. -/
theorem rel_step (c : Dev nD) (t : Fin cfg0.N) {y0 y1 c0 c1 s0 s1 a0 a1} (hinv : Inv m c t.val a0)
    (hrel : Rel (grid0.coords t) (iblk m c 0 t) (iblk m c 1 t) (iblk m c 2 t) y0 y1 c0 c1 s0 s1 a0 a1) :
    After m c 3 t y0 y1 ∧ After m c 4 t c0 c1 ∧ After m c 5 t s0 s1 ∧ Inv m c (t.val + 1) a1 := by
  obtain ⟨hA, hA', hB⟩ := hrel
  rw [cond1_iff, coords0] at hA hA'
  rw [cond2_iff, coords0] at hB
  have keep : ∀ u : Fin cfg0.N, u.val < t.val → u.val / 5 < 16 → t.val / 5 ≤ u.val / 5 + 1 → ∀ p z,
      a1 ((rA (grid0.coords u) p).emb z) = bXa (xb (XA m c) (8 * (u.val / 5) + p.val / 4) (4 * (u.val % 5) + p.val % 4)) z := by
    intro u h1 h2 h3 p z
    rw [← hinv u h1 h2 h3 p z]
    by_cases h : t.val / 5 < 16
    · exact (hA h).2.2.2 _ fun q => rA_apart u t h1 h3 p q z
    · rw [(hA' h).2.2]
  refine ⟨?_, ⟨fun h p z => ?_, fun h => (hA' h).1⟩, ⟨fun h => ?_, fun h => (hA' h).2.1⟩, ?_⟩
  · intro h5 j z
    have h := hB (by omega) j z
    refine h.trans ?_
    refine congrArg (fun v => k0_pay2 (k0_pay584 v) (waTile (grid0.coords t) (iblk m c 1 t) (iblk m c 2 t) j) z) ?_
    funext x
    have ht : t.val < 85 := t.isLt
    have x0 : (x 0).val < 1 := (x 0).isLt
    have x1 : (x 1).val < 1024 := (x 1).isLt
    have x2 : (x 2).val < 5120 := (x 2).isLt
    have hu : 5 * (t.val / 5 - 1) + (x 2).val / 1024 < 85 := by omega
    have hp : 4 * ((x 1).val / 128) + (x 2).val % 1024 / 256 < 32 := by omega
    have k := keep ⟨5 * (t.val / 5 - 1) + (x 2).val / 1024, hu⟩ (by show 5 * (t.val / 5 - 1) + (x 2).val / 1024 < t.val; omega)
      (by show (5 * (t.val / 5 - 1) + (x 2).val / 1024) / 5 < 16; omega) (by show t.val / 5 ≤ (5 * (t.val / 5 - 1) + (x 2).val / 1024) / 5 + 1; omega)
      ⟨4 * ((x 1).val / 128) + (x 2).val % 1024 / 256, hp⟩ (ix3 0 ⟨(x 1).val % 128, Nat.mod_lt _ (by decide)⟩ ⟨(x 2).val % 256, Nat.mod_lt _ (by decide)⟩)
    have d0 := coords0 t
    have f0 := coords0 ⟨5 * (t.val / 5 - 1) + (x 2).val / 1024, hu⟩
    have f1 := coords1 ⟨5 * (t.val / 5 - 1) + (x 2).val / 1024, hu⟩
    dsimp only at f0 f1 k
    refine (congrArg a1 (funext fun a => Fin.ext ?_)).trans (k.trans ?_)
    · match a with
      | ⟨0, _⟩ =>
        show ((grid0.coords t 0).val + 1) % 2 + 1 * (x 0).val = (grid0.coords ⟨5 * (t.val / 5 - 1) + (x 2).val / 1024, hu⟩ 0).val % 2 + 1 * 0
        rw [d0, f0]; omega
      | ⟨1, _⟩ =>
        show 0 + 1 * (x 1).val = 128 * ((4 * ((x 1).val / 128) + (x 2).val % 1024 / 256) / 4) + 1 * ((x 1).val % 128)
        omega
      | ⟨2, _⟩ =>
        show 0 + 1 * (x 2).val = 1024 * (grid0.coords ⟨5 * (t.val / 5 - 1) + (x 2).val / 1024, hu⟩ 1).val + 256 * ((4 * ((x 1).val / 128) + (x 2).val % 1024 / 256) % 4) + 1 * ((x 2).val % 256)
        rw [f1]; omega
    · unfold xaHalf
      have g0 : 8 * ((5 * (t.val / 5 - 1) + (x 2).val / 1024) / 5) + (4 * ((x 1).val / 128) + (x 2).val % 1024 / 256) / 4 = 8 * (t.val / 5 - 1) + (x 1).val / 128 := by omega
      have g1 : 4 * ((5 * (t.val / 5 - 1) + (x 2).val / 1024) % 5) + (4 * ((x 1).val / 128) + (x 2).val % 1024 / 256) % 4 = (x 2).val / 256 := by omega
      rw [g0, g1]
  · rw [← blk_eq m c t h p]; exact (hA h).1 p z
  · have e : (fun p : Fin 32 => xb (XA m c) (8 * (t.val / 5) + p.val / 4) (4 * (t.val % 5) + p.val % 4)) = blk (iblk m c 0 t) :=
      funext fun p => (blk_eq m c t h p).symm
    rw [e]; exact (hA h).2.1
  · intro u h1 h2 h3 p z
    rcases Nat.lt_succ_iff_lt_or_eq.mp h1 with h1 | h1
    · exact keep u h1 h2 (by omega) p z
    · obtain rfl : u = t := Fin.ext h1
      rw [← blk_eq m c u h2 p]; exact (hA h2).2.2.1 p z

end pipeline
end Cert.KernelIdeal.Hand
end
-- ==== Proof.Body.lean ====
module

public import proofs.«01_k».proof.Proof.Points
public import proofs.«01_k».proof.Proof.Gen.KernelIdeal.Frame

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (UR sig nD τ) ℕ

section body
variable (i : grid0.Coords) (arg2 : Memref sig .tc .vmem S1024x1024 .bf16) (harg2 : arg2.IsWhole) (arg3 : Memref sig .tc .vmem S5120x1792 .fp8e4m3) (harg3 : arg3.IsWhole) (arg4 : Memref sig .tc .smem S20x35 .f32) (harg4 : arg4.IsWhole) (arg5 : Memref sig .tc .vmem S1024x1792 .bf16) (harg5 : arg5.IsWhole) (arg6 : Memref sig .tc .vmem S1024x1024 .fp8e4m3) (harg6 : arg6.IsWhole) (arg7 : Memref sig .tc .vmem S8x20 .f32) (harg7 : arg7.IsWhole) (arg8 : Memref sig .tc .vmem S2x1024x5120 .bf16) (harg8 : arg8.IsWhole) (arg9 : Memref sig .tc .vmem S2x5120x256 .bf16) (harg9 : arg9.IsWhole)

/-- The buffers a body holds, at their contents. -/
def Holds (c : Dev nD) (x : Vec F S1024x1024 .bf16) (w : Vec F S5120x1792 .fp8e4m3) (s : Vec F S20x35 .f32) (y0 : Vec F S1024x1792 .bf16) (c0 : Vec F S1024x1024 .fp8e4m3) (s0 : Vec F S8x20 .f32) (a0 : Vec F S2x1024x5120 .bf16) (b0 : Vec F S2x5120x256 .bf16) : sProp 𝕄 :=
  iprop(owns (c : Thread nD τ) arg2 fullShare x ∗ owns (c : Thread nD τ) arg3 fullShare w ∗ owns (c : Thread nD τ) arg4 fullShare s ∗ owns (c : Thread nD τ) arg5 fullShare y0 ∗ owns (c : Thread nD τ) arg6 fullShare c0 ∗ owns (c : Thread nD τ) arg7 fullShare s0 ∗ owns (c : Thread nD τ) arg8 fullShare a0 ∗ owns (c : Thread nD τ) arg9 fullShare b0)

/-- A body that has left its buffers at `g` in `Rel` to what it found may continue. -/
theorem finish (c : Dev nD) (f2 : Buf (Elt F) (arg2.view.loc (c : Thread nD τ))) (f3 : Buf (Elt F) (arg3.view.loc (c : Thread nD τ))) (f4 : Buf (Elt F) (arg4.view.loc (c : Thread nD τ))) (f5 : Buf (Elt F) (arg5.view.loc (c : Thread nD τ))) (f6 : Buf (Elt F) (arg6.view.loc (c : Thread nD τ))) (f7 : Buf (Elt F) (arg7.view.loc (c : Thread nD τ))) (f8 : Buf (Elt F) (arg8.view.loc (c : Thread nD τ))) (f9 : Buf (Elt F) (arg9.view.loc (c : Thread nD τ))) (g5 : Buf (Elt F) (arg5.view.loc (c : Thread nD τ))) (g6 : Buf (Elt F) (arg6.view.loc (c : Thread nD τ))) (g7 : Buf (Elt F) (arg7.view.loc (c : Thread nD τ))) (g8 : Buf (Elt F) (arg8.view.loc (c : Thread nD τ))) (g9 : Buf (Elt F) (arg9.view.loc (c : Thread nD τ)))
    (hrel : Rel i (arg2.view.read (Elt F) f2) (arg3.view.read (Elt F) f3) (arg4.view.read (Elt F) f4) (arg5.view.read (Elt F) f5) (arg5.view.read (Elt F) g5) (arg6.view.read (Elt F) f6) (arg6.view.read (Elt F) g6) (arg7.view.read (Elt F) f7) (arg7.view.read (Elt F) g7) (arg8.view.read (Elt F) f8) (arg8.view.read (Elt F) g8)) (K : PUnit.{1} → sProp 𝕄) :
    iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} g5) ∗ (arg6.view.loc (c : Thread nD τ) ↦[arg6.view.set]{fullShare} g6) ∗ (arg7.view.loc (c : Thread nD τ) ↦[arg7.view.set]{fullShare} g7) ∗ (arg8.view.loc (c : Thread nD τ) ↦[arg8.view.set]{fullShare} g8) ∗ (arg9.view.loc (c : Thread nD τ) ↦[arg9.view.set]{fullShare} g9) ∗ (∀ y1 c1 s1 a1 b1, iprop(⌜Rel i (arg2.view.read (Elt F) f2) (arg3.view.read (Elt F) f3) (arg4.view.read (Elt F) f4) (arg5.view.read (Elt F) f5) y1 (arg6.view.read (Elt F) f6) c1 (arg7.view.read (Elt F) f7) s1 (arg8.view.read (Elt F) f8) a1⌝ ∗ Holds arg2 arg3 arg4 arg5 arg6 arg7 arg8 arg9 c (arg2.view.read (Elt F) f2) (arg3.view.read (Elt F) f3) (arg4.view.read (Elt F) f4) y1 c1 s1 a1 b1) -∗ K ⟨⟩)) ⊢ K ⟨⟩ := by
  iintro ⟨H2, H3, H4, H5, H6, H7, H8, H9, Hk⟩
  ihave Hk := Hk $$ %(arg5.view.read (Elt F) g5) %(arg6.view.read (Elt F) g6) %(arg7.view.read (Elt F) g7) %(arg8.view.read (Elt F) g8) %(arg9.view.read (Elt F) g9)
  iapply Hk
  isplitr; · ipureintro; exact hrel
  unfold Holds
  isplitl [H2]; · iapply (owns_intro (c : Thread nD τ) arg2 fullShare _); iexact H2
  isplitl [H3]; · iapply (owns_intro (c : Thread nD τ) arg3 fullShare _); iexact H3
  isplitl [H4]; · iapply (owns_intro (c : Thread nD τ) arg4 fullShare _); iexact H4
  isplitl [H5]; · iapply (owns_intro (c : Thread nD τ) arg5 fullShare _); iexact H5
  isplitl [H6]; · iapply (owns_intro (c : Thread nD τ) arg6 fullShare _); iexact H6
  isplitl [H7]; · iapply (owns_intro (c : Thread nD τ) arg7 fullShare _); iexact H7
  isplitl [H8]; · iapply (owns_intro (c : Thread nD τ) arg8 fullShare _); iexact H8
  iapply (owns_intro (c : Thread nD τ) arg9 fullShare _); iexact H9

set_option maxHeartbeats 2000000 in
/-- The body runs, and what it leaves is in `Rel` to what it found. -/
theorem sound_kernel (c : Dev nD) (E : Set ℕ) (x : Vec F S1024x1024 .bf16) (w : Vec F S5120x1792 .fp8e4m3) (s : Vec F S20x35 .f32) (y0 : Vec F S1024x1792 .bf16) (c0 : Vec F S1024x1024 .fp8e4m3) (s0 : Vec F S8x20 .f32) (a0 : Vec F S2x1024x5120 .bf16) (b0 : Vec F S2x5120x256 .bf16) (K : PUnit.{1} → sProp 𝕄) :
    iprop(Holds arg2 arg3 arg4 arg5 arg6 arg7 arg8 arg9 c x w s y0 c0 s0 a0 b0 ∗ (∀ y1 c1 s1 a1 b1, iprop(⌜Rel i x w s y0 y1 c0 c1 s0 s1 a0 a1⌝ ∗ Holds arg2 arg3 arg4 arg5 arg6 arg7 arg8 arg9 c x w s y1 c1 s1 a1 b1) -∗ K ⟨⟩))
      ⊢ wp frame (wpE (defs₀ (F := F)) Variants.none c none) E (cc0_linear i arg2 harg2 arg3 harg3 arg4 harg4 arg5 harg5 arg6 harg6 arg7 harg7 arg8 harg8 arg9 harg9) K := by
  rw [cc0_linear_eq_skeleton, body_halves]
  conv_lhs => enter [1]; unfold Holds owns
  iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩⟩, Hk⟩
  subst hf2 hf3 hf4 hf5 hf6 hf7 hf8 hf9
  by_cases h : k0_cond1 i = 1#1
  · rw [dif_pos h]
    iapply ((runA i arg2 harg2 arg3 harg3 arg4 harg4 arg5 harg5 arg6 harg6 arg7 harg7 arg8 harg8 arg9 harg9 c h f2 f6 f7 f8).2 E _ K)
    isplitl [H2]; · iexact H2
    isplitl [H6]; · iexact H6
    isplitl [H7]; · iexact H7
    isplitl [H8]; · iexact H8
    iintro ⟨H2, H6, H7, H8⟩
    by_cases h' : k0_cond2 i = 1#1
    · rw [dif_pos h']
      iapply ((runB i arg2 harg2 arg3 harg3 arg4 harg4 arg5 harg5 arg6 harg6 arg7 harg7 arg8 harg8 arg9 harg9 c h' f3 f4 f5 (runA i arg2 harg2 arg3 harg3 arg4 harg4 arg5 harg5 arg6 harg6 arg7 harg7 arg8 harg8 arg9 harg9 c h f2 f6 f7 f8).1.2.2 f9).2 E K)
      isplitl [H3]; · iexact H3
      isplitl [H4]; · iexact H4
      isplitl [H5]; · iexact H5
      isplitl [H8]; · iexact H8
      isplitl [H9]; · iexact H9
      iintro ⟨H3, H4, H5, H8, H9⟩
      iapply (finish i arg2 arg3 arg4 arg5 arg6 arg7 arg8 arg9 c f2 f3 f4 f5 f6 f7 f8 f9 (runB i arg2 harg2 arg3 harg3 arg4 harg4 arg5 harg5 arg6 harg6 arg7 harg7 arg8 harg8 arg9 harg9 c h' f3 f4 f5 (runA i arg2 harg2 arg3 harg3 arg4 harg4 arg5 harg5 arg6 harg6 arg7 harg7 arg8 harg8 arg9 harg9 c h f2 f6 f7 f8).1.2.2 f9).1.1 (runA i arg2 harg2 arg3 harg3 arg4 harg4 arg5 harg5 arg6 harg6 arg7 harg7 arg8 harg8 arg9 harg9 c h f2 f6 f7 f8).1.1 (runA i arg2 harg2 arg3 harg3 arg4 harg4 arg5 harg5 arg6 harg6 arg7 harg7 arg8 harg8 arg9 harg9 c h f2 f6 f7 f8).1.2.1 (runA i arg2 harg2 arg3 harg3 arg4 harg4 arg5 harg5 arg6 harg6 arg7 harg7 arg8 harg8 arg9 harg9 c h f2 f6 f7 f8).1.2.2 (runB i arg2 harg2 arg3 harg3 arg4 harg4 arg5 harg5 arg6 harg6 arg7 harg7 arg8 harg8 arg9 harg9 c h' f3 f4 f5 (runA i arg2 harg2 arg3 harg3 arg4 harg4 arg5 harg5 arg6 harg6 arg7 harg7 arg8 harg8 arg9 harg9 c h f2 f6 f7 f8).1.2.2 f9).1.2 (⟨fun _ => runA_rel i arg2 harg2 arg3 harg3 arg4 harg4 arg5 harg5 arg6 harg6 arg7 harg7 arg8 harg8 arg9 harg9 c h f2 f6 f7 f8, fun hn => absurd h hn, fun _ => runB_rel i arg2 harg2 arg3 harg3 arg4 harg4 arg5 harg5 arg6 harg6 arg7 harg7 arg8 harg8 arg9 harg9 c h' f3 f4 f5 _ f9⟩) K)
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact Hk
    · rw [dif_neg h', wp_pure]
      imodintro
      iapply (finish i arg2 arg3 arg4 arg5 arg6 arg7 arg8 arg9 c f2 f3 f4 f5 f6 f7 f8 f9 f5 (runA i arg2 harg2 arg3 harg3 arg4 harg4 arg5 harg5 arg6 harg6 arg7 harg7 arg8 harg8 arg9 harg9 c h f2 f6 f7 f8).1.1 (runA i arg2 harg2 arg3 harg3 arg4 harg4 arg5 harg5 arg6 harg6 arg7 harg7 arg8 harg8 arg9 harg9 c h f2 f6 f7 f8).1.2.1 (runA i arg2 harg2 arg3 harg3 arg4 harg4 arg5 harg5 arg6 harg6 arg7 harg7 arg8 harg8 arg9 harg9 c h f2 f6 f7 f8).1.2.2 f9 (⟨fun _ => runA_rel i arg2 harg2 arg3 harg3 arg4 harg4 arg5 harg5 arg6 harg6 arg7 harg7 arg8 harg8 arg9 harg9 c h f2 f6 f7 f8, fun hn => absurd h hn, fun h2 => absurd h2 h'⟩) K)
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact Hk
  · rw [dif_neg h]
    by_cases h' : k0_cond2 i = 1#1
    · rw [dif_pos h']
      iapply ((runB i arg2 harg2 arg3 harg3 arg4 harg4 arg5 harg5 arg6 harg6 arg7 harg7 arg8 harg8 arg9 harg9 c h' f3 f4 f5 f8 f9).2 E K)
      isplitl [H3]; · iexact H3
      isplitl [H4]; · iexact H4
      isplitl [H5]; · iexact H5
      isplitl [H8]; · iexact H8
      isplitl [H9]; · iexact H9
      iintro ⟨H3, H4, H5, H8, H9⟩
      iapply (finish i arg2 arg3 arg4 arg5 arg6 arg7 arg8 arg9 c f2 f3 f4 f5 f6 f7 f8 f9 (runB i arg2 harg2 arg3 harg3 arg4 harg4 arg5 harg5 arg6 harg6 arg7 harg7 arg8 harg8 arg9 harg9 c h' f3 f4 f5 f8 f9).1.1 f6 f7 f8 (runB i arg2 harg2 arg3 harg3 arg4 harg4 arg5 harg5 arg6 harg6 arg7 harg7 arg8 harg8 arg9 harg9 c h' f3 f4 f5 f8 f9).1.2 (⟨fun h1 => absurd h1 h, fun _ => ⟨rfl, rfl, rfl⟩, fun _ => runB_rel i arg2 harg2 arg3 harg3 arg4 harg4 arg5 harg5 arg6 harg6 arg7 harg7 arg8 harg8 arg9 harg9 c h' f3 f4 f5 f8 f9⟩) K)
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact Hk
    · rw [dif_neg h', wp_pure]
      imodintro
      iapply (finish i arg2 arg3 arg4 arg5 arg6 arg7 arg8 arg9 c f2 f3 f4 f5 f6 f7 f8 f9 f5 f6 f7 f8 f9 (⟨fun h1 => absurd h1 h, fun _ => ⟨rfl, rfl, rfl⟩, fun h2 => absurd h2 h'⟩) K)
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact Hk

end body

section pipeline
open Idealize.ShloMosaic.Pipeline
variable (m : (ℓ : Loc nD τ sig) → Buf (Elt F) ℓ) (ρ : Dev nD → PrngReg)

/-- The pipeline's proof data: the arrays as the region finds them, `After` and, of the scratch, `Inv`. -/
def rdat (c : Dev nD) : RDat τ (Elt F) Unit ℕ (UR sig nD τ) ℕ cfg0 c where
  A w := V m c (Pipeline.arrRef spec0 w)
  after w t Y X := After m c w t Y X
  Φ t := iprop((∃ a, ⌜Inv m c t.val a⌝ ∗ owns (c : Thread nD τ) (Memref.whole cc0_scratch0) fullShare a)
    ∗ (∃ b, owns (c : Thread nD τ) (Memref.whole cc0_scratch1) fullShare b) ∗ (∃ r, prngReg c r))
  q _ := fullShare
  owed _ := 0

theorem rdat_A (c : Dev nD) (w : Fin cfg0.W) : (rdat m c).A w = V m c (Pipeline.arrRef spec0 w) := by
  dsimp only [rdat]

theorem rdat_after (c : Dev nD) (w : Fin cfg0.W) (t : Fin cfg0.N) : (rdat m c).after w t = After m c w t := by
  dsimp only [rdat]

/-- An input's buffer holds its block whenever the body runs. -/
theorem finds0 (c : Dev nD) (t : Fin cfg0.N) (Y) (h : (rdat m c).Finds 0 t Y) : Y = iblk m c 0 t := by
  obtain ⟨d, rfl⟩ := (rdat m c).finds_in_eq_fetched 0 rfl (fun _ _ _ => rfl) (fun t Y X h => by rw [rdat_after] at h; exact h) t Y h
  unfold RDat.fetched RDat.blockOf iblk; rw [rdat_A]; rfl
theorem finds1 (c : Dev nD) (t : Fin cfg0.N) (Y) (h : (rdat m c).Finds 1 t Y) : Y = iblk m c 1 t := by
  obtain ⟨d, rfl⟩ := (rdat m c).finds_in_eq_fetched 1 rfl (fun _ _ _ => rfl) (fun t Y X h => by rw [rdat_after] at h; exact h) t Y h
  unfold RDat.fetched RDat.blockOf iblk; rw [rdat_A]; rfl
theorem finds2 (c : Dev nD) (t : Fin cfg0.N) (Y) (h : (rdat m c).Finds 2 t Y) : Y = iblk m c 2 t := by
  obtain ⟨d, rfl⟩ := (rdat m c).finds_in_eq_fetched 2 rfl (fun _ _ _ => rfl) (fun t Y X h => by rw [rdat_after] at h; exact h) t Y h
  unfold RDat.fetched RDat.blockOf iblk; rw [rdat_A]; rfl

/-- What the body is called with at point `t`. -/
def bodyPre (c : Dev nD) (t : Fin cfg0.N) (Y : (w : Fin cfg0.W) → (cfg0.win w).block.Idx → Elt F (cfg0.win w).elt) : sProp 𝕄 :=
  iprop((rdat m c).Φ t.castSucc ∗ (rdat m c).owesAt () t.castSucc
    ∗ owns (c : Thread nD τ) (st0_0 t) fullShare (Y 0)
    ∗ owns (c : Thread nD τ) (st0_1 t) fullShare (Y 1)
    ∗ owns (c : Thread nD τ) (st0_2 t) fullShare (Y 2)
    ∗ owns (c : Thread nD τ) (st0_3 t) fullShare (Y 3)
    ∗ owns (c : Thread nD τ) (st0_4 t) fullShare (Y 4)
    ∗ owns (c : Thread nD τ) (st0_5 t) fullShare (Y 5))

/-- What it returns. -/
def bodyPost (c : Dev nD) (t : Fin cfg0.N) (Y : (w : Fin cfg0.W) → (cfg0.win w).block.Idx → Elt F (cfg0.win w).elt) : sProp 𝕄 :=
  iprop((rdat m c).Φ t.succ ∗ (rdat m c).owesAt () t.succ
    ∗ (∃ X, ⌜(rdat m c).after 0 t (Y 0) X⌝ ∗ owns (c : Thread nD τ) (st0_0 t) fullShare X)
    ∗ (∃ X, ⌜(rdat m c).after 1 t (Y 1) X⌝ ∗ owns (c : Thread nD τ) (st0_1 t) fullShare X)
    ∗ (∃ X, ⌜(rdat m c).after 2 t (Y 2) X⌝ ∗ owns (c : Thread nD τ) (st0_2 t) fullShare X)
    ∗ (∃ X, ⌜(rdat m c).after 3 t (Y 3) X⌝ ∗ owns (c : Thread nD τ) (st0_3 t) fullShare X)
    ∗ (∃ X, ⌜(rdat m c).after 4 t (Y 4) X⌝ ∗ owns (c : Thread nD τ) (st0_4 t) fullShare X)
    ∗ (∃ X, ⌜(rdat m c).after 5 t (Y 5) X⌝ ∗ owns (c : Thread nD τ) (st0_5 t) fullShare X))

set_option maxHeartbeats 1000000 in
/-- The body at any point. -/
theorem sound_body (c : Dev nD) (t : Fin cfg0.N) (Y : (w : Fin cfg0.W) → (cfg0.win w).block.Idx → Elt F (cfg0.win w).elt)
    (h0 : Y 0 = iblk m c 0 t) (h1 : Y 1 = iblk m c 1 t) (h2 : Y 2 = iblk m c 2 t) :
    bodyPre m c t Y ⊢ wp frame (wpE (defs₀ (F := F)) Variants.none c none) Set.univ (bodyAt0 t) (fun _ => bodyPost m c t Y) := by
  unfold bodyPre bodyPost bodyAt0
  rw [show (rdat m c).owesAt () t.succ = (rdat m c).owesAt () t.castSucc from rfl, h0, h1, h2]
  simp only [rdat_after]
  rw [show (rdat m c).Φ t.castSucc = iprop((∃ a, ⌜Inv m c t.val a⌝ ∗ owns (c : Thread nD τ) (Memref.whole cc0_scratch0) fullShare a)
    ∗ (∃ b, owns (c : Thread nD τ) (Memref.whole cc0_scratch1) fullShare b) ∗ (∃ r, prngReg c r)) from rfl,
    show (rdat m c).Φ t.succ = iprop((∃ a, ⌜Inv m c (t.val + 1) a⌝ ∗ owns (c : Thread nD τ) (Memref.whole cc0_scratch0) fullShare a)
    ∗ (∃ b, owns (c : Thread nD τ) (Memref.whole cc0_scratch1) fullShare b) ∗ (∃ r, prngReg c r)) from rfl]
  iintro ⟨⟨⟨%a, %ha, HA⟩, ⟨%b, HB⟩, Hr⟩, Ho, H0, H1, H2, H3, H4, H5⟩
  iapply (sound_kernel (grid0.coords t) _ _ _ _ _ _ _ _ _ _ _ _ _ _ _ _ c Set.univ (iblk m c 0 t) (iblk m c 1 t) (iblk m c 2 t) (Y 3) (Y 4) (Y 5) a b _)
  isplitl [HA HB H0 H1 H2 H3 H4 H5]
  · unfold Holds
    isplitl [H0]; · iexact H0
    isplitl [H1]; · iexact H1
    isplitl [H2]; · iexact H2
    isplitl [H3]; · iexact H3
    isplitl [H4]; · iexact H4
    isplitl [H5]; · iexact H5
    isplitl [HA]; · iexact HA
    iexact HB
  iintro %y1 %c1 %s1 %a1 %b1 ⟨%hrel, H⟩
  obtain ⟨q3, q4, q5, qi⟩ := rel_step m c t ha hrel
  unfold Holds
  icases H with ⟨H0, H1, H2, H3, H4, H5, HA, HB⟩
  isplitl [HA HB Hr]
  · isplitl [HA]
    · iexists a1; isplitr; · ipureintro; exact qi
      iexact HA
    isplitl [HB]
    · iexists b1; iexact HB
    iexact Hr
  isplitl [Ho]; · iexact Ho
  isplitl [H0]
  · iexists (iblk m c 0 t); isplitr; · ipureintro; exact rfl
    iexact H0
  isplitl [H1]
  · iexists (iblk m c 1 t); isplitr; · ipureintro; exact rfl
    iexact H1
  isplitl [H2]
  · iexists (iblk m c 2 t); isplitr; · ipureintro; exact rfl
    iexact H2
  isplitl [H3]
  · iexists y1; isplitr; · ipureintro; exact q3
    iexact H3
  isplitl [H4]
  · iexists c1; isplitr; · ipureintro; exact q4
    iexact H4
  iexists s1; isplitr; · ipureintro; exact q5
  iexact H5

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation. -/
theorem body_obligation (c : Dev nD) : (rdat (F := F) m c).BodyObligation (defs₀ (F := F)) Variants.none () Set.univ := fun t Y hY => by
  rw [bigSep_W0, bigSep_W0, defs₀_row]
  exact triple_restated (sound_body m c t Y (finds0 m c t _ (hY 0)) (finds1 m c t _ (hY 1)) (finds2 m c t _ (hY 2))) rfl .rfl fun _ => .rfl

/-- The scratch at anything is the invariant before the first point, -/
theorem hin (c : Dev nD) : (Pipeline.ΦA spec0 c : sProp 𝕄) ⊢ (rdat m c).Φ 0 := by
  rw [show (rdat m c).Φ 0 = iprop((∃ a, ⌜Inv m c 0 a⌝ ∗ owns (c : Thread nD τ) (Memref.whole cc0_scratch0) fullShare a)
    ∗ (∃ b, owns (c : Thread nD τ) (Memref.whole cc0_scratch1) fullShare b) ∗ (∃ r, prngReg c r)) from rfl]
  unfold Pipeline.ΦA
  rw [scopedRest0_eq]
  simp only [owns_whole]
  iintro ⟨⟨⟨%a, HA⟩, HB⟩, Hr⟩
  isplitl [HA]
  · iexists a; isplitr; · ipureintro; exact inv_zero m c a
    iexact HA
  isplitl [HB]; · iexact HB
  iexact Hr

/-- and the invariant after the last is the scratch at anything. -/
theorem hout (c : Dev nD) : (rdat m c).Φ (Fin.last cfg0.N) ⊢ (Pipeline.ΦA spec0 c : sProp 𝕄) := by
  rw [show (rdat m c).Φ (Fin.last cfg0.N) = iprop((∃ a, ⌜Inv m c (Fin.last cfg0.N).val a⌝ ∗ owns (c : Thread nD τ) (Memref.whole cc0_scratch0) fullShare a)
    ∗ (∃ b, owns (c : Thread nD τ) (Memref.whole cc0_scratch1) fullShare b) ∗ (∃ r, prngReg c r)) from rfl]
  unfold Pipeline.ΦA
  rw [scopedRest0_eq]
  simp only [owns_whole]
  iintro ⟨⟨%a, %ha, HA⟩, HB, Hr⟩
  isplitl [HA HB]
  · isplitl [HA]
    · iexists a; iexact HA
    iexact HB
  iexact Hr

set_option backward.isDefEq.respectTransparency.types false in
set_option maxHeartbeats 800000 in
/-- The launch: every array ends at contents the proof data allows, every counter at zero. -/
theorem run_main : θ_run defs (onTc (τ := τ) (main (F := F))) (s₀ m ρ) (fun r => (RDat.FramePost cfg0 (rdat m) (V m)) r ∧ r.2.sem = fun _ => 0) :=
  RDat.θ_run_frame_track (Q' := _) cfgs (0 : Fin 1) launch0 defs₀ Variants.none (rdat m) m ρ main
    (hbody := body_obligation m) (hshare := fun c => (rdat m c).share_full fun _ => rfl)
    (howed := fun _ _ => rfl) (V := V m) (hmain := hmain m Variants.none) (hA := rdat_A m) (hin := hin m) (hout := hout m)

/-- The argument arrays end as they began. -/
theorem args_of_post (r) (h : RDat.FramePost cfg0 (rdat m) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  ⟨((h c).2 main_arg0 (Pipeline.mem_restRefs_of main_arg0 (by decide) (by decide))).trans (V_main_arg0 m c),
    ((congrFun ((rdat m c).ArrAt_in 1 rfl _) _).mp ((h c).1 1)).trans ((rdat_A m c 1).trans (V_main_arg1 m c)),
    ((congrFun ((rdat m c).ArrAt_in 2 rfl _) _).mp ((h c).1 2)).trans ((rdat_A m c 2).trans (V_main_arg2 m c))⟩

/-- The program runs, its arguments unchanged, every counter at zero at the end. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨args_of_post m r h.1, h.2⟩) (run_main m ρ)
end pipeline

end Cert.KernelIdeal.Hand
end
-- ==== Proof.RefRun.lean ====
/- What the reference leaves in its three result arrays: its body's three stored values, of the whole arguments. The
   reference has one grid point, whose blocks are the whole arrays. -/
module

public import proofs.«01_k».proof.Proof.Gen.ReferenceIdeal.Frame
public import Idealize.ShloMosaic.Lib.Pipeline.Value

@[expose] public section

noncomputable section

namespace Cert.ReferenceIdeal.Hand

open Cert.ReferenceIdeal Cert.ReferenceIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

theorem zeros2 : (![0, 0] : Fin 2 → ℕ) = fun _ => 0 := by
  funext a
  match a with
  | ⟨0, _⟩ => rfl
  | ⟨1, _⟩ => rfl

/-- The only point's block of an operand begins at the operand's origin. -/
theorem index_zero : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] := by decide +kernel

/-- The only point writes its blocks back. -/
theorem flush_all : ∀ t : Fin cfg0.N, (cfg0.win 3).flush t = true ∧ (cfg0.win 4).flush t = true ∧ (cfg0.win 5).flush t = true := by
  decide +kernel

theorem one_point : ∀ t t' : Fin cfg0.N, t = t' := by decide +kernel

/-- The block of `x` is all of `x`. -/
theorem iblk0 (c : Dev nD) (t : Fin cfg0.N) : iblk m c 0 t = V m c main_v0 := by
  funext z
  show V m c main_v0 _ = V m c main_v0 _
  refine congrArg (V m c main_v0) (funext fun a => Fin.ext ?_)
  have h := (index_zero t).1
  match a with
  | ⟨0, _⟩ => show win0_0.index t 0 * 16384 + 1 * (z 0).val = (z 0).val; rw [h]; show 0 * 16384 + _ = _; omega
  | ⟨1, _⟩ => show win0_0.index t 1 * 5120 + 1 * (z 1).val = (z 1).val; rw [h]; show 0 * 5120 + _ = _; omega

/-- The block of the weights is all of them. -/
theorem iblk1 (c : Dev nD) (t : Fin cfg0.N) : iblk m c 1 t = V m c main_arg1 := by
  funext z
  show V m c main_arg1 _ = V m c main_arg1 _
  refine congrArg (V m c main_arg1) (funext fun a => Fin.ext ?_)
  have h := (index_zero t).2.1
  match a with
  | ⟨0, _⟩ => show win0_1.index t 0 * 5120 + 1 * (z 0).val = (z 0).val; rw [h]; show 0 * 5120 + _ = _; omega
  | ⟨1, _⟩ => show win0_1.index t 1 * 8960 + 1 * (z 1).val = (z 1).val; rw [h]; show 0 * 8960 + _ = _; omega

/-- The block of the weights' scales is all of them. -/
theorem iblk2 (c : Dev nD) (t : Fin cfg0.N) : iblk m c 2 t = V m c main_arg2 := by
  funext z
  show V m c main_arg2 _ = V m c main_arg2 _
  refine congrArg (V m c main_arg2) (funext fun a => Fin.ext ?_)
  have h := (index_zero t).2.2.1
  match a with
  | ⟨0, _⟩ => show win0_2.index t 0 * 20 + 1 * (z 0).val = (z 0).val; rw [h]; show 0 * 20 + _ = _; omega
  | ⟨1, _⟩ => show win0_2.index t 1 * 35 + 1 * (z 1).val = (z 1).val; rw [h]; show 0 * 35 + _ = _; omega

theorem out3_eq (x0 : Vec F S16384x5120 .bf16) (x1 : Vec F S5120x8960 .fp8e4m3) (x2 : Vec F S20x35 .f32) :
    out0_3 x0 x1 x2 = k0_pay1 (k0_pay6 x0) x1 x2 := by
  unfold out0_3
  rw [View.canon_cons_unit_zero zeros2, View.ld_unit_zero zeros2, View.ld_unit_zero zeros2, View.ld_unit_zero zeros2]

theorem out4_eq (x0 : Vec F S16384x5120 .bf16) (x1 : Vec F S5120x8960 .fp8e4m3) (x2 : Vec F S20x35 .f32) :
    out0_4 x0 x1 x2 = k0_pay5 x0 := by
  unfold out0_4
  rw [View.canon_cons_unit_zero zeros2, View.ld_unit_zero zeros2]

theorem out5_eq (x0 : Vec F S16384x5120 .bf16) (x1 : Vec F S5120x8960 .fp8e4m3) (x2 : Vec F S20x35 .f32) :
    out0_5 x0 x1 x2 = k0_pay4 x0 := by
  unfold out0_5
  rw [View.canon_cons_unit_zero zeros2, View.ld_unit_zero zeros2]

def t0 : Fin cfg0.N := ⟨0, by decide⟩

set_option maxRecDepth 20000 in
/-- The product's array after the run. -/
theorem final3 (c : Dev nD) : (dats m 0 c).arrAt 3 cfg0.N = k0_pay1 (k0_pay6 (V m c main_v0)) (V m c main_arg1) (V m c main_arg2) := by
  have b := (dats m 0 c).read_blk_arrAt_eq_flushed 3 (fun t t' _ _ hne => absurd (one_point t t') hne) cfg0.N t0 t0.isLt (flush_all t0).1
  have f : (dats m 0 c).flushed 3 t0 = (cfg0.win 3).cut (grid0.coords t0) (out0_3 (iblk m c 0 t0) (iblk m c 1 t0) (iblk m c 2 t0)) := by
    show (cfg0.win 3).cut (grid0.coords t0) ((dats m 0 c).after 3 t0) = _
    rw [after0_3]
  rw [f, iblk0, iblk1, iblk2, out3_eq] at b
  funext y
  have h := (index_zero t0).2.2.2.1
  have ha : ∀ a, (y a).val = ((((cfg0.win 3).blk t0).view.emb y) a).val := fun a => by
    match a with
    | ⟨0, _⟩ => show (y 0).val = win0_3.index t0 0 * 16384 + 1 * (y 0).val; rw [h]; show _ = 0 * 16384 + _; omega
    | ⟨1, _⟩ => show (y 1).val = win0_3.index t0 1 * 8960 + 1 * (y 1).val; rw [h]; show _ = 0 * 8960 + _; omega
  have e := funext fun a => Fin.ext (ha a)
  exact (congrArg ((dats m 0 c).arrAt 3 cfg0.N) e).trans (congrFun b y)

set_option maxRecDepth 20000 in
/-- The codes' array after the run. -/
theorem final4 (c : Dev nD) : (dats m 0 c).arrAt 4 cfg0.N = k0_pay5 (V m c main_v0) := by
  have b := (dats m 0 c).read_blk_arrAt_eq_flushed 4 (fun t t' _ _ hne => absurd (one_point t t') hne) cfg0.N t0 t0.isLt (flush_all t0).2.1
  have f : (dats m 0 c).flushed 4 t0 = (cfg0.win 4).cut (grid0.coords t0) (out0_4 (iblk m c 0 t0) (iblk m c 1 t0) (iblk m c 2 t0)) := by
    show (cfg0.win 4).cut (grid0.coords t0) ((dats m 0 c).after 4 t0) = _
    rw [after0_4]
  rw [f, iblk0, iblk1, iblk2, out4_eq] at b
  funext y
  have h := (index_zero t0).2.2.2.2.1
  have ha : ∀ a, (y a).val = ((((cfg0.win 4).blk t0).view.emb y) a).val := fun a => by
    match a with
    | ⟨0, _⟩ => show (y 0).val = win0_4.index t0 0 * 16384 + 1 * (y 0).val; rw [h]; show _ = 0 * 16384 + _; omega
    | ⟨1, _⟩ => show (y 1).val = win0_4.index t0 1 * 5120 + 1 * (y 1).val; rw [h]; show _ = 0 * 5120 + _; omega
  have e := funext fun a => Fin.ext (ha a)
  exact (congrArg ((dats m 0 c).arrAt 4 cfg0.N) e).trans (congrFun b y)

/-- The scales' array after the run. -/
theorem final5 (c : Dev nD) : (dats m 0 c).arrAt 5 cfg0.N = k0_pay4 (V m c main_v0) := by
  have b := (dats m 0 c).read_blk_arrAt_eq_flushed 5 (fun t t' _ _ hne => absurd (one_point t t') hne) cfg0.N t0 t0.isLt (flush_all t0).2.2
  have f : (dats m 0 c).flushed 5 t0 = (cfg0.win 5).cut (grid0.coords t0) (out0_5 (iblk m c 0 t0) (iblk m c 1 t0) (iblk m c 2 t0)) := by
    show (cfg0.win 5).cut (grid0.coords t0) ((dats m 0 c).after 5 t0) = _
    rw [after0_5]
  rw [f, iblk0, iblk1, iblk2, out5_eq] at b
  funext y
  have h := (index_zero t0).2.2.2.2.2
  have ha : ∀ a, (y a).val = ((((cfg0.win 5).blk t0).view.emb y) a).val := fun a => by
    match a with
    | ⟨0, _⟩ => show (y 0).val = win0_5.index t0 0 * 128 + 1 * (y 0).val; rw [h]; show _ = 0 * 128 + _; omega
    | ⟨1, _⟩ => show (y 1).val = win0_5.index t0 1 * 20 + 1 * (y 1).val; rw [h]; show _ = 0 * 20 + _; omega
  have e := funext fun a => Fin.ext (ha a)
  exact (congrArg ((dats m 0 c).arrAt 5 cfg0.N) e).trans (congrFun b y)

/-- The region reads `x` laid out as one matrix. -/
theorem V_main_v0 (c : Dev nD) : V m c main_v0 = shapeCast S16384x5120 (m ((c.tc : Thread nD τ).loc main_arg0)) shapeCasts_S2x8192x5120_S16384x5120 := by
  show StableHlo.after hostOps0 (fun b => m (c, b)) (Proc.devRef .tc main_v0) = _
  rw [StableHlo.after_cons, StableHlo.after_nil, StableHlo.reshape_result]
  rfl

/-- The reference's run: the three results, and the arguments as launched. -/
theorem run_values : θ_run defs (onTc (τ := τ) (main (F := F))) ⟨m, fun _ => 0, ρ⟩ fun r => ∀ c : Dev nD,
      r.2.mem ((c.tc : Thread nD τ).loc main_v1_0) = k0_pay1 (k0_pay6 (V m c main_v0)) (V m c main_arg1) (V m c main_arg2)
      ∧ r.2.mem ((c.tc : Thread nD τ).loc main_v1_1) = k0_pay5 (V m c main_v0)
      ∧ r.2.mem ((c.tc : Thread nD τ).loc main_v1_2) = k0_pay4 (V m c main_v0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨((h c).1 3).trans (final3 m c), ((h c).1 4).trans (final4 m c), ((h c).1 5).trans (final5 m c),
      ((h c).2 main_arg0 (Pipeline.mem_restRefs_of main_arg0 (by decide) (by decide))).trans (V_main_arg0 m c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.ReferenceIdeal.Hand
-- ==== Proof.Final.lean ====
module

public import proofs.«01_k».proof.Proof.Body
public import Idealize.ShloMosaic.Lib.Pipeline.ArrRel
public import Idealize.ShloMosaic.Lib.Pipeline.Value

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

/-- The mask of one store into the scale block: row `b`, column `4 n + g`. -/
def hitBit (b : ℕ) (n g : ℕ) (r k : ℕ) : BitVec 1 :=
  IntOp.andi (IntOp.cmpi .eq (BitVec.ofNat 32 r) (BitVec.ofNat 32 b)) (IntOp.cmpi .eq (BitVec.ofNat 32 k) (IntOp.addi (IntOp.muli (BitVec.ofNat 32 n) 4#32) (BitVec.ofNat 32 g)))

theorem hitBit_iff : ∀ (b : Fin 8) (n : Fin 5) (g : Fin 4) (r : Fin 8) (k : Fin 20),
    hitBit b n g r k = 1#1 ↔ r.val = b.val ∧ k.val = 4 * n.val + g.val := by decide +kernel

/-- The scale block, one store on, at an index. -/
theorem accS_succ (i : grid0.Coords) (B : Fin 32 → Vec F S128x256 .bf16) (s0 : FVec F S8x20 .f32) (n : ℕ) (h : n + 1 ≤ 32) (r : Fin 8) (k : Fin 20) :
    accS i B s0 (n + 1) h (ix2 r k) = if r.val = n / 4 ∧ k.val = 4 * (i 1).val + n % 4 then bScale (B ⟨n, h⟩) (ix2 r ⟨k.val, by have := k.isLt; omega⟩)
      else accS i B s0 n (Nat.le_of_succ_le h) (ix2 r k) := by
  have h1 : (i 1).val < 5 := (i 1).isLt
  have e : accS i B s0 (n + 1) h (ix2 r k) = Scalar.select (hitBit (n / 4) (i 1).val (n % 4) r.val k.val)
      (extractStridedSlice S8x20 ![0, 0] (bScale (B ⟨n, h⟩)) slices_S8x128_o0_0_S8x20 (ix2 r k)) (accS i B s0 n (Nat.le_of_succ_le h) (ix2 r k)) := by
    show Scalar.select (IntOp.andi (IntOp.cmpi .eq (iota .tc S8x20 32 [0] iota_S8x20_d0_w32 (ix2 r k)) _) (IntOp.cmpi .eq (iota .tc S8x20 32 [1] iota_S8x20_d1_w32 (ix2 r k)) _)) _ _ = _
    rw [iota_single_apply, iota_single_apply]
    rfl
  rw [e, extractStridedSlice_apply (k := ix2 r ⟨k.val, by have := k.isLt; omega⟩) (hk := fun a => by
    match a with
    | ⟨0, _⟩ => exact (Nat.zero_add _).symm
    | ⟨1, _⟩ => exact (Nat.zero_add _).symm)]
  have hb := hitBit_iff ⟨n / 4, by omega⟩ ⟨(i 1).val, h1⟩ ⟨n % 4, by omega⟩ r k
  dsimp only at hb
  by_cases hc : r.val = n / 4 ∧ k.val = 4 * (i 1).val + n % 4
  · rw [if_pos hc, hb.mpr hc]; rfl
  · rw [if_neg hc]
    have : hitBit (n / 4) (i 1).val (n % 4) r.val k.val ≠ 1#1 := fun h => hc (hb.mp h)
    exact if_neg this

/-- The columns the point does not write stay, -/
theorem accS_miss (i : grid0.Coords) (B : Fin 32 → Vec F S128x256 .bf16) (s0 : FVec F S8x20 .f32) (r : Fin 8) (k : Fin 20)
    (hk : k.val < 4 * (i 1).val) : ∀ n (h : n ≤ 32), accS i B s0 n h (ix2 r k) = s0 (ix2 r k)
  | 0, _ => rfl
  | n + 1, h => by rw [accS_succ, if_neg (by omega), accS_miss i B s0 r k hk n]

/-- and those it writes are the blocks' scales. -/
theorem accS_hit (i : grid0.Coords) (B : Fin 32 → Vec F S128x256 .bf16) (s0 : FVec F S8x20 .f32) (r : Fin 8) (k : Fin 20) (d : ℕ) (hd : d < 4)
    (hk : k.val = 4 * (i 1).val + d) : ∀ n (h : n ≤ 32), 4 * r.val + d < n →
      accS i B s0 n h (ix2 r k) = bScale (B ⟨4 * r.val + d, by omega⟩) (ix2 r ⟨k.val, by have := k.isLt; omega⟩)
  | 0, _ => fun h => absurd h (Nat.not_lt_zero _)
  | n + 1, h => fun hn => by
    rw [accS_succ]
    by_cases hc : 4 * r.val + d = n
    · subst hc
      rw [if_pos (by omega)]
    · rw [if_neg (by omega)]
      exact accS_hit i B s0 r k d hd hk n _ (by omega)

section forms
variable (X : Vec F S16384x5120 .bf16) (W : Vec F S5120x8960 .fp8e4m3) (S : Vec F S20x35 .f32)

/-- The codes of the whole matrix, block by block; -/
def codesG : Vec F S16384x5120 .fp8e4m3 := fun y =>
  bCodes (xb X ((y 0).val / 128) ((y 1).val / 256)) (ix2 ⟨(y 0).val % 128, Nat.mod_lt _ (by decide)⟩ ⟨(y 1).val % 256, Nat.mod_lt _ (by decide)⟩)
/-- its scales; -/
def scaleG : Vec F S128x20 .f32 := fun y =>
  bScale (xb X (y 0).val (y 1).val) (ix2 ⟨(y 0).val % 8, Nat.mod_lt _ (by decide)⟩ ⟨(y 1).val % 128, Nat.mod_lt _ (by decide)⟩)
/-- a column block of the weights at their scales; -/
def waCol (C : ℕ) : Vec F S1x5120x256 .bf16 := fun z =>
  k0_pay407 (S (ix2 ⟨((z 1).val / 256) % 20, Nat.mod_lt _ (by decide)⟩ ⟨C % 35, Nat.mod_lt _ (by decide)⟩))
    (fun x => W (ix2 ⟨(256 * ((z 1).val / 256) + (x 0).val) % 5120, Nat.mod_lt _ (by decide)⟩ ⟨(256 * C + (x 1).val) % 8960, Nat.mod_lt _ (by decide)⟩))
    (ix3 0 ⟨(z 1).val % 256, Nat.mod_lt _ (by decide)⟩ (z 2))
/-- the product. -/
def yG : Vec F S16384x8960 .bf16 := fun y =>
  k0_pay2 (k0_pay584 (xaHalf X ((y 0).val / 1024))) (waCol W S ((y 1).val / 256))
    (ix2 ⟨(y 0).val % 1024, Nat.mod_lt _ (by decide)⟩ ⟨(y 1).val % 256, Nat.mod_lt _ (by decide)⟩)
end forms

section pipeline
open Idealize.ShloMosaic.Pipeline
variable (m : (ℓ : Loc nD τ sig) → Buf (Elt F) ℓ) (ρ : Dev nD → PrngReg)

theorem index1 : ∀ t : Fin cfg0.N, win0_1.index t = ![0, if 5 ≤ t.val then t.val % 5 else 0] := by decide +kernel
theorem index2 : ∀ t : Fin cfg0.N, win0_2.index t = ![0, 0] := by decide +kernel
theorem index3 : ∀ t : Fin cfg0.N, win0_3.index t = ![t.val / 5 - 1, if 5 ≤ t.val then t.val % 5 else 0] := by decide +kernel
theorem index4 : ∀ t : Fin cfg0.N, win0_4.index t = ![min (t.val / 5) 15, if t.val / 5 < 16 then t.val % 5 else 4] := by decide +kernel
theorem index5 : ∀ t : Fin cfg0.N, win0_5.index t = ![min (t.val / 5) 15, 0] := by decide +kernel
theorem flush3 : ∀ t : Fin cfg0.N, (cfg0.win 3).flush t = true → 5 ≤ t.val := by decide +kernel
theorem flush4 : ∀ t : Fin cfg0.N, (cfg0.win 4).flush t = true → t.val < 79 ∨ t.val = 84 := by decide +kernel
theorem flush5 : ∀ t : Fin cfg0.N, (cfg0.win 5).flush t = true → t.val % 5 = 4 ∧ (t.val < 79 ∨ t.val = 84) := by decide +kernel
theorem fetch4 : ∀ t : Fin cfg0.N, (cfg0.win 4).fetch t = false := by decide +kernel
theorem fetch5 : ∀ t : Fin cfg0.N, (cfg0.win 5).fetch t = false := by decide +kernel

/-- What the body multiplies by at a point is a column block of the weights. -/
theorem waTile_eq (c : Dev nD) (t : Fin cfg0.N) (h : 5 ≤ t.val) (j : Fin 7) :
    waTile (grid0.coords t) (iblk m c 1 t) (iblk m c 2 t) j = waCol (V m c main_arg1) (V m c main_arg2) (7 * (t.val % 5) + j.val) := by
  funext z
  have z1 : (z 1).val < 5120 := (z 1).isLt
  have hi := index1 t
  have hi2 := index2 t
  have hc := coords1 t
  have q20 : (z 1).val / 256 < 20 := by omega
  have eS : wScale (grid0.coords t) (iblk m c 2 t) ⟨(z 1).val / 256, q20⟩ j
      = (V m c main_arg2) (ix2 ⟨((z 1).val / 256) % 20, Nat.mod_lt _ (by decide)⟩ ⟨(7 * (t.val % 5) + j.val) % 35, Nat.mod_lt _ (by decide)⟩) := by
    show V m c main_arg2 _ = V m c main_arg2 _
    refine congrArg (V m c main_arg2) (funext fun a => Fin.ext ?_)
    match a with
    | ⟨0, _⟩ =>
      show win0_2.index t 0 * 20 + 1 * ((z 1).val / 256) = ((z 1).val / 256) % 20
      rw [hi2]; show 0 * 20 + _ = _; omega
    | ⟨1, _⟩ =>
      show win0_2.index t 1 * 35 + 1 * (7 * (grid0.coords t 1).val + j.val) = (7 * (t.val % 5) + j.val) % 35
      rw [hi2, hc]; show 0 * 35 + _ = _; omega
  have eW : wBlock (iblk m c 1 t) ⟨(z 1).val / 256, q20⟩ j
      = fun x => (V m c main_arg1) (ix2 ⟨(256 * ((z 1).val / 256) + (x 0).val) % 5120, Nat.mod_lt _ (by decide)⟩ ⟨(256 * (7 * (t.val % 5) + j.val) + (x 1).val) % 8960, Nat.mod_lt _ (by decide)⟩) := by
    funext x
    have x0 : (x 0).val < 256 := (x 0).isLt
    have x1 : (x 1).val < 256 := (x 1).isLt
    show V m c main_arg1 _ = V m c main_arg1 _
    refine congrArg (V m c main_arg1) (funext fun a => Fin.ext ?_)
    match a with
    | ⟨0, _⟩ =>
      show win0_1.index t 0 * 5120 + 1 * (256 * ((z 1).val / 256) + (x 0).val) = (256 * ((z 1).val / 256) + (x 0).val) % 5120
      rw [hi]; show 0 * 5120 + _ = _; omega
    | ⟨1, _⟩ =>
      show win0_1.index t 1 * 1792 + 1 * (256 * j.val + (x 1).val) = (256 * (7 * (t.val % 5) + j.val) + (x 1).val) % 8960
      rw [hi]; show (if 5 ≤ t.val then t.val % 5 else 0) * 1792 + _ = _
      rw [if_pos h]; omega
  show k0_pay407 (wScale (grid0.coords t) (iblk m c 2 t) ⟨(z 1).val / 256, q20⟩ j) (wBlock (iblk m c 1 t) ⟨(z 1).val / 256, q20⟩ j) _ = _
  rw [eS, eW]
  rfl

/-- The codes in the staging buffer after a point: those of the block last written. -/
theorem leaves4 (c : Dev nD) : ∀ (n : ℕ) (h : n < cfg0.N) (X), (rdat m c).Leaves 4 ⟨n, h⟩ X → ∀ p z,
    (X : Vec F S1024x1024 .fp8e4m3) ((rX p).emb z) = bCodes (xb (XA m c) (8 * (min (n / 5) 15) + p.val / 4) (4 * (if n / 5 < 16 then n % 5 else 4) + p.val % 4)) z := by
  intro n
  induction n with
  | zero =>
    rintro h X ⟨Y, -, hY⟩ p z
    rw [rdat_after] at hY
    exact hY.1 (by show 0 / 5 < 16; decide) p z
  | succ n ih =>
    rintro h X ⟨Y, hf, hY⟩ p z
    rw [rdat_after] at hY
    have hlt : n + 1 < 85 := h
    by_cases h16 : (n + 1) / 5 < 16
    · rw [if_pos h16, Nat.min_eq_left (by omega)]
      exact hY.1 h16 p z
    · rw [if_neg h16, Nat.min_eq_right (by omega)]
      obtain rfl := hY.2 h16
      rw [(rdat m c).finds_of_pos (fetch4 _) (Nat.succ_ne_zero n)] at hf
      rcases hf with hf | hf
      · exfalso
        have := flush4 _ hf
        have hh : n < 79 ∨ n = 84 := this
        omega
      · have := ih (by omega) X hf p z
        have e1 : min (n / 5) 15 = 15 := by omega
        have e2 : (if n / 5 < 16 then n % 5 else 4) = 4 := by split_ifs <;> omega
        rw [e1, e2] at this
        exact this

/-- The scales there: those of the blocks written so far. -/
theorem leaves5 (c : Dev nD) : ∀ (n : ℕ) (h : n < cfg0.N) (X), (rdat m c).Leaves 5 ⟨n, h⟩ X → ∀ (r : Fin 8) (k : Fin 20),
    (n / 5 < 16 → k.val < 4 * (n % 5) + 4) →
    (X : Vec F S8x20 .f32) (ix2 r k) = bScale (xb (XA m c) (8 * (min (n / 5) 15) + r.val) k.val) (ix2 r ⟨k.val, by have := k.isLt; omega⟩) := by
  intro n
  induction n with
  | zero =>
    rintro h X ⟨Y, -, hY⟩ r k hk
    rw [rdat_after] at hY
    obtain rfl := hY.1 (by show 0 / 5 < 16; decide)
    have c1 := coords1 ⟨0, h⟩
    have hk' := hk (by decide)
    refine (accS_hit (grid0.coords ⟨0, h⟩) _ Y r k k.val (by omega) ?_ 32 le_rfl (by omega)).trans ?_
    · rw [c1]; simp
    · have e1 : (4 * r.val + k.val) / 4 = r.val := by omega
      have e2 : (4 * r.val + k.val) % 4 = k.val := by omega
      dsimp only
      rw [e1, e2]
      norm_num
  | succ n ih =>
    rintro h X ⟨Y, hf, hY⟩ r k hk
    rw [rdat_after] at hY
    have hlt : n + 1 < 85 := h
    have prev : ¬ ((n + 1) / 5 < 16 ∧ 4 * ((n + 1) % 5) ≤ k.val) →
        (Y : Vec F S8x20 .f32) (ix2 r k) = bScale (xb (XA m c) (8 * (min ((n + 1) / 5) 15) + r.val) k.val) (ix2 r ⟨k.val, by have := k.isLt; omega⟩) := by
      intro hn
      rw [(rdat m c).finds_of_pos (fetch5 _) (Nat.succ_ne_zero n)] at hf
      rcases hf with hf | hf
      · exfalso
        have := flush5 _ hf
        have hh : n % 5 = 4 ∧ (n < 79 ∨ n = 84) := this
        omega
      · have e1 : min (n / 5) 15 = min ((n + 1) / 5) 15 := by omega
        have := ih (by omega) Y hf r k (by have := k.isLt; omega)
        rw [e1] at this
        exact this
    by_cases h16 : (n + 1) / 5 < 16
    · obtain rfl := hY.1 h16
      have c1 := coords1 ⟨n + 1, h⟩
      dsimp only at c1
      by_cases hn : 4 * ((n + 1) % 5) ≤ k.val
      · have hk' := hk h16
        have hd : k.val - 4 * ((n + 1) % 5) < 4 := by omega
        refine (accS_hit (grid0.coords ⟨n + 1, h⟩) _ Y r k (k.val - 4 * ((n + 1) % 5)) hd ?_ 32 le_rfl (by omega)).trans ?_
        · rw [c1]; omega
        · dsimp only
          have e1 : 8 * ((n + 1) / 5) + (4 * r.val + (k.val - 4 * ((n + 1) % 5))) / 4 = 8 * min ((n + 1) / 5) 15 + r.val := by omega
          have e2 : 4 * ((n + 1) % 5) + (4 * r.val + (k.val - 4 * ((n + 1) % 5))) % 4 = k.val := by omega
          rw [e1, e2]
      · exact (accS_miss (grid0.coords ⟨n + 1, h⟩) _ Y r k (by rw [c1]; omega) 32 le_rfl).trans (prev (by omega))
    · obtain rfl := hY.2 h16
      exact prev (by omega)

set_option maxHeartbeats 1000000 in
/-- THE RUN'S RESULTS: the three result arrays as functions of the arguments. -/
theorem run_values : θ_run defs (onTc (τ := τ) (main (F := F))) ⟨m, fun _ => 0, ρ⟩ (fun r => ∀ c : Dev nD,
      r.2.mem ((c.tc : Thread nD τ).loc main_v1_0) = yG (XA m c) (V m c main_arg1) (V m c main_arg2)
      ∧ r.2.mem ((c.tc : Thread nD τ).loc main_v1_1) = codesG (XA m c)
      ∧ r.2.mem ((c.tc : Thread nD τ).loc main_v1_2) = scaleG (XA m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run defs _ _).mono (fun r h c => ?_) (run_main m ρ)
  have hargs := args_of_post m r h.1 c
  obtain ⟨after, hL, hA⟩ := RDat.FramePost.exists_exact h.1 c
  refine ⟨(hA 3).trans ?_, (hA 4).trans ?_, (hA 5).trans ?_, hargs⟩
  · refine ((rdat m c).withAfter after).arrAt_eq_of_covers 3 _ (by decide +kernel) fun t hf y => ?_
    obtain ⟨Y, -, hY⟩ := hL 3 t hf
    rw [rdat_after] at hY
    have h5 := flush3 t hf
    have hi := index3 t
    have ht : t.val < 85 := t.isLt
    have y0 : (y 0).val < 1024 := (y 0).isLt
    have y1 : (y 1).val < 1792 := (y 1).isLt
    have k := hY h5 ⟨(y 1).val / 256, by omega⟩ (ix2 ⟨(y 0).val, y0⟩ ⟨(y 1).val % 256, Nat.mod_lt _ (by decide)⟩)
    have ey : (rY ⟨(y 1).val / 256, by omega⟩).emb (ix2 ⟨(y 0).val, y0⟩ ⟨(y 1).val % 256, Nat.mod_lt _ (by decide)⟩) = (y : S1024x1792.Idx) := by
      funext a; refine Fin.ext ?_
      match a with
      | ⟨0, _⟩ => show 0 + 1 * (y 0).val = (y 0).val; omega
      | ⟨1, _⟩ => show 256 * ((y 1).val / 256) + 1 * ((y 1).val % 256) = (y 1).val; omega
    rw [ey, waTile_eq m c t h5] at k
    have e0 : ((((cfg0.win 3).blk t).view.emb y) 0).val = 1024 * (t.val / 5 - 1) + (y 0).val := by
      show win0_3.index t 0 * 1024 + 1 * (y 0).val = _
      rw [hi]; show (t.val / 5 - 1) * 1024 + _ = _; omega
    have e1 : ((((cfg0.win 3).blk t).view.emb y) 1).val = 1792 * (t.val % 5) + (y 1).val := by
      show win0_3.index t 1 * 1792 + 1 * (y 1).val = _
      rw [hi]; show (if 5 ≤ t.val then t.val % 5 else 0) * 1792 + _ = _; rw [if_pos h5]; omega
    refine Eq.trans ?_ (k.trans ?_)
    · rfl
    · unfold yG
      simp only [e0, e1]
      have g0 : (1024 * (t.val / 5 - 1) + (y 0).val) / 1024 = t.val / 5 - 1 := by omega
      have g1 : (1024 * (t.val / 5 - 1) + (y 0).val) % 1024 = (y 0).val := by omega
      have g2 : (1792 * (t.val % 5) + (y 1).val) / 256 = 7 * (t.val % 5) + (y 1).val / 256 := by omega
      have g3 : (1792 * (t.val % 5) + (y 1).val) % 256 = (y 1).val % 256 := by omega
      simp only [g0, g1, g2, g3]
  · refine ((rdat m c).withAfter after).arrAt_eq_of_covers 4 _ (by decide +kernel) fun t hf y => ?_
    have hi := index4 t
    have ht : t.val < 85 := t.isLt
    have y0 : (y 0).val < 1024 := (y 0).isLt
    have y1 : (y 1).val < 1024 := (y 1).isLt
    have k := leaves4 m c t.val t.isLt _ (hL 4 t hf) ⟨4 * ((y 0).val / 128) + (y 1).val / 256, by omega⟩ (ix2 ⟨(y 0).val % 128, Nat.mod_lt _ (by decide)⟩ ⟨(y 1).val % 256, Nat.mod_lt _ (by decide)⟩)
    have ey : (rX ⟨4 * ((y 0).val / 128) + (y 1).val / 256, by omega⟩).emb (ix2 ⟨(y 0).val % 128, Nat.mod_lt _ (by decide)⟩ ⟨(y 1).val % 256, Nat.mod_lt _ (by decide)⟩) = (y : S1024x1024.Idx) := by
      funext a; refine Fin.ext ?_
      match a with
      | ⟨0, _⟩ => show 128 * ((4 * ((y 0).val / 128) + (y 1).val / 256) / 4) + 1 * ((y 0).val % 128) = (y 0).val; omega
      | ⟨1, _⟩ => show 256 * ((4 * ((y 0).val / 128) + (y 1).val / 256) % 4) + 1 * ((y 1).val % 256) = (y 1).val; omega
    rw [ey] at k
    generalize hg : (if t.val / 5 < 16 then t.val % 5 else 4) = g at hi k
    have hg5 : g < 5 := by rw [← hg]; split_ifs <;> omega
    have e0 : ((((cfg0.win 4).blk t).view.emb y) 0).val = 1024 * (min (t.val / 5) 15) + (y 0).val := by
      show win0_4.index t 0 * 1024 + 1 * (y 0).val = _
      rw [hi]; show (min (t.val / 5) 15) * 1024 + _ = _; omega
    have e1 : ((((cfg0.win 4).blk t).view.emb y) 1).val = 1024 * g + (y 1).val := by
      show win0_4.index t 1 * 1024 + 1 * (y 1).val = _
      rw [hi]; show g * 1024 + _ = _; omega
    refine Eq.trans ?_ (k.trans ?_)
    · rfl
    · unfold codesG
      simp only [e0, e1]
      have g0 : (1024 * (min (t.val / 5) 15) + (y 0).val) / 128 = 8 * (min (t.val / 5) 15) + (4 * ((y 0).val / 128) + (y 1).val / 256) / 4 := by omega
      have g1 : (1024 * (min (t.val / 5) 15) + (y 0).val) % 128 = (y 0).val % 128 := by omega
      have g2 : (1024 * g + (y 1).val) / 256 = 4 * g + (4 * ((y 0).val / 128) + (y 1).val / 256) % 4 := by omega
      have g3 : (1024 * g + (y 1).val) % 256 = (y 1).val % 256 := by omega
      simp only [g0, g1, g2, g3]
  · refine ((rdat m c).withAfter after).arrAt_eq_of_covers 5 _ (by decide +kernel) fun t hf y => ?_
    have hi := index5 t
    have ht : t.val < 85 := t.isLt
    have h4 := (flush5 t hf).1
    have y0 : (y 0).val < 8 := (y 0).isLt
    have y1 : (y 1).val < 20 := (y 1).isLt
    have k := leaves5 m c t.val t.isLt _ (hL 5 t hf) ⟨(y 0).val, y0⟩ ⟨(y 1).val, y1⟩ (fun _ => by omega)
    have ey : ix2 ⟨(y 0).val, y0⟩ ⟨(y 1).val, y1⟩ = (y : S8x20.Idx) := by
      funext a; refine Fin.ext ?_
      match a with
      | ⟨0, _⟩ => rfl
      | ⟨1, _⟩ => rfl
    rw [ey] at k
    have e0 : ((((cfg0.win 5).blk t).view.emb y) 0).val = 8 * (min (t.val / 5) 15) + (y 0).val := by
      show win0_5.index t 0 * 8 + 1 * (y 0).val = _
      rw [hi]; show (min (t.val / 5) 15) * 8 + _ = _; omega
    have e1 : ((((cfg0.win 5).blk t).view.emb y) 1).val = (y 1).val := by
      show win0_5.index t 1 * 20 + 1 * (y 1).val = _
      rw [hi]; show 0 * 20 + _ = _; omega
    refine Eq.trans ?_ (k.trans ?_)
    · rfl
    · unfold scaleG
      simp only [e0, e1]
      have g0 : (8 * (min (t.val / 5) 15) + (y 0).val) % 8 = (y 0).val := by omega
      have g1 : (y 1).val % 128 = (y 1).val := by omega
      simp only [g0, g1]

end pipeline
end Cert.KernelIdeal.Hand
end
-- ==== Proof.Exponent.lean ====
module

public import Idealize.ShloMosaic.Lib.ValueIdx
public import Idealize.ShloMosaic.Lib.IdealHost
public import Mathlib.Analysis.SpecialFunctions.Log.Basic

@[expose] public section

noncomputable section

namespace Cert.Exponent

open Idealize.ShloMosaic

/-! The kernel finds a positive number's exponent by asking, bit by bit, which power of two it still reaches; the reference
takes the floor of its logarithm. Over the extended reals the two are the same power of two. -/

/-- The number whose exponent field is `n`. -/
def word (n : BitVec 32) : EReal := Ideal.ofBits .f32 (IntOp.shli .vector n 23#32)
/-- One bit of the search. -/
def step (v : EReal) (E b : BitVec 32) : BitVec 32 := Scalar.select (Ideal.cmp .oge v (word (IntOp.addi E b))) (IntOp.addi E b) E
/-- The search. -/
def field (v : EReal) : BitVec 32 :=
  step v (step v (step v (step v (step v (step v (step v (step v 0#32 128#32) 64#32) 32#32) 16#32) 8#32) 4#32) 2#32) 1#32
/-- The kernel's exponent, -/
def kexp (v : EReal) : BitVec 32 :=
  Scalar.select (IntOp.ori (IntOp.cmpi .eq (field v) 0#32) (IntOp.cmpi .eq (field v) 255#32)) 0#32 (IntOp.subi (field v) 126#32)
/-- its scale -/
def kscale (v : EReal) : EReal := word (IntOp.addi (kexp v) 127#32)
/-- and its inverse scale. -/
def kinv (v : EReal) : EReal := word (IntOp.subi 127#32 (kexp v))
/-- The reference's exponent, of a block's largest magnitude `a` and of the same scaled down. -/
def rexp (a v : EReal) : EReal :=
  Scalar.select (IntOp.ori (Ideal.cmp .oeq a (Ideal.ofBits .f32 0x00000000#32)) (Ideal.cmp .oeq a (Ideal.ofBits .f32 0x7F800000#32)))
    (Ideal.ofBits .f32 0x00000000#32)
    (Ideal.liftRound Int.floor (Ideal.div (Ideal.log v) (Ideal.log (Ideal.ofBits .f32 0x40000000#32))) + Ideal.ofBits .f32 0x3F800000#32)

/-- The number of exponent field `n`, a natural number. -/
def T (n : ℕ) : EReal := word (BitVec.ofNat 32 n)

theorem fields : ∀ n : Fin 256, ((IntOp.shli .vector (BitVec.ofNat 32 n.val) 23#32).extractLsb' 31 1 == 1#1) = false
    ∧ ((IntOp.shli .vector (BitVec.ofNat 32 n.val) 23#32).extractLsb' 23 8).toNat = n.val
    ∧ ((IntOp.shli .vector (BitVec.ofNat 32 n.val) 23#32).extractLsb' 0 23).toNat = 0 := by decide +kernel

/-- It is a power of two, -/
theorem T_pow (n : ℕ) (h1 : 1 ≤ n) (h2 : n ≤ 254) : T n = (((2 : ℝ) ^ ((n : ℤ) - 127) : ℝ) : EReal) := by
  obtain ⟨f1, f2, f3⟩ := fields ⟨n, by omega⟩
  dsimp only at f1 f2 f3
  unfold T word
  show Ideal.ieee 8 23 _ = _
  unfold Ideal.ieee
  dsimp only
  rw [f1, f2, f3, if_neg (by omega), if_neg (by omega)]
  refine congrArg _ ?_
  have e : ((n : ℤ) - 127) = 23 + ((n : ℤ) - (2 ^ (8 - 1) - 1) - (23 : ℕ)) := by push_cast; ring
  rw [e, zpow_add₀ (by norm_num)]
  norm_num
/-- or the infinity. -/
theorem T_top : T 255 = ⊤ := by
  obtain ⟨f1, f2, f3⟩ := fields ⟨255, by omega⟩
  dsimp only at f1 f2 f3
  have e : T 255 = Ideal.ieee 8 23 (IntOp.shli .vector (BitVec.ofNat 32 255) 23#32) := rfl
  rw [e]
  unfold Ideal.ieee
  dsimp only
  rw [f1, f2, f3, if_pos (by norm_num), if_pos rfl]
  rfl

/-- What the search keeps: the field found so far is reached, and the next one is not. -/
def Inv (v : EReal) (b E : ℕ) : Prop := (E = 0 ∨ T E ≤ v) ∧ E + b ≤ 256 ∧ (E + b = 256 ∨ ¬ T (E + b) ≤ v)

theorem step_inv (v : EReal) (b b' E : ℕ) (hb : b = 2 * b') (hp : 0 < b') (h : Inv v b E) :
    ∃ E', step v (BitVec.ofNat 32 E) (BitVec.ofNat 32 b') = BitVec.ofNat 32 E' ∧ Inv v b' E' := by
  obtain ⟨h1, h2, h3⟩ := h
  have ea : IntOp.addi (BitVec.ofNat 32 E) (BitVec.ofNat 32 b') = BitVec.ofNat 32 (E + b') := (BitVec.ofNat_add E b').symm
  unfold step
  rw [ea]
  by_cases hc : T (E + b') ≤ v
  · have hs : Ideal.cmp .oge v (word (BitVec.ofNat 32 (E + b'))) = 1#1 := by
      show BitVec.ofBool (decide (T (E + b') ≤ v)) = 1#1
      rw [decide_eq_true hc]; rfl
    rw [hs]
    refine ⟨E + b', rfl, Or.inr hc, by omega, ?_⟩
    rw [show E + b' + b' = E + b by omega]; exact h3
  · have hs : Ideal.cmp .oge v (word (BitVec.ofNat 32 (E + b'))) = 0#1 := by
      show BitVec.ofBool (decide (T (E + b') ≤ v)) = 0#1
      rw [decide_eq_false hc]; rfl
    rw [hs]
    exact ⟨E, rfl, h1, by omega, Or.inr hc⟩

/-- The field found: the largest reached. -/
theorem field_spec (v : EReal) : ∃ E, field v = BitVec.ofNat 32 E ∧ (E = 0 ∨ T E ≤ v) ∧ E ≤ 255 ∧ (E = 255 ∨ ¬ T (E + 1) ≤ v) := by
  have h0 : Inv v 256 0 := ⟨Or.inl rfl, le_rfl, Or.inl rfl⟩
  obtain ⟨E1, e1, h1⟩ := step_inv v 256 128 0 rfl (by decide) h0
  obtain ⟨E2, e2, h2⟩ := step_inv v 128 64 E1 rfl (by decide) h1
  obtain ⟨E3, e3, h3⟩ := step_inv v 64 32 E2 rfl (by decide) h2
  obtain ⟨E4, e4, h4⟩ := step_inv v 32 16 E3 rfl (by decide) h3
  obtain ⟨E5, e5, h5⟩ := step_inv v 16 8 E4 rfl (by decide) h4
  obtain ⟨E6, e6, h6⟩ := step_inv v 8 4 E5 rfl (by decide) h5
  obtain ⟨E7, e7, h7⟩ := step_inv v 4 2 E6 rfl (by decide) h6
  obtain ⟨E8, e8, h8⟩ := step_inv v 2 1 E7 rfl (by decide) h7
  refine ⟨E8, ?_, h8.1, by have := h8.2.1; omega, ?_⟩
  · rw [← e8, ← e7, ← e6, ← e5, ← e4, ← e3, ← e2, ← e1]; rfl
  · rcases h8.2.2 with h | h
    · exact Or.inl (by omega)
    · exact Or.inr h

theorem kexp_of_field (v : EReal) (E : ℕ) (h : field v = BitVec.ofNat 32 E) (h2 : E ≤ 255) :
    kexp v = if E = 0 ∨ E = 255 then 0#32 else BitVec.ofNat 32 E - 126#32 := by
  have key : ∀ n : Fin 256, Scalar.select (IntOp.ori (IntOp.cmpi .eq (BitVec.ofNat 32 n.val) 0#32) (IntOp.cmpi .eq (BitVec.ofNat 32 n.val) 255#32)) 0#32 (IntOp.subi (BitVec.ofNat 32 n.val) 126#32)
      = if n.val = 0 ∨ n.val = 255 then 0#32 else BitVec.ofNat 32 n.val - 126#32 := by decide +kernel
  unfold kexp
  rw [h]
  exact key ⟨E, by omega⟩

theorem scale_word : ∀ n : Fin 256, IntOp.addi (BitVec.ofNat 32 n.val - 126#32) 127#32 = BitVec.ofNat 32 (n.val + 1) := by decide +kernel
theorem inv_word : ∀ n : Fin 253, IntOp.subi 127#32 (BitVec.ofNat 32 n.val - 126#32) = BitVec.ofNat 32 (253 - n.val) := by decide +kernel

theorem exp2_int (z : ℤ) : Ideal.exp2 (((z : ℝ) : ℝ) : EReal) = (((2 : ℝ) ^ z : ℝ) : EReal) := by
  rw [Ideal.exp2_coe]
  exact congrArg _ (Real.rpow_intCast 2 z)

theorem two_lit : Ideal.ofBits .f32 0x40000000#32 = ((2 : ℝ) : EReal) := by
  have h := T_pow 128 (by omega) (by omega)
  rw [show Ideal.ofBits .f32 0x40000000#32 = T 128 from rfl, h]; norm_num
theorem one_lit : Ideal.ofBits .f32 0x3F800000#32 = ((1 : ℝ) : EReal) := by
  have h := T_pow 127 (by omega) (by omega)
  rw [show Ideal.ofBits .f32 0x3F800000#32 = T 127 from rfl, h]; norm_num

theorem sel_true {α : Type} (c : BitVec 1) (a b : α) (h : c = 1#1) : Scalar.select c a b = a := if_pos h
theorem sel_false {α : Type} (c : BitVec 1) (a b : α) (h : c = 0#1) : Scalar.select c a b = b := if_neg (by rw [h]; decide)

/-- The reference's exponent is zero at zero and at infinity, -/
theorem rexp_special (a v : EReal) (h : a = 0 ∨ a = ⊤) : rexp a v = 0 := by
  unfold rexp
  rw [sel_true]
  · exact Ideal.ofBits_zero_f32
  · show BitVec.ofBool (decide (a = Ideal.ofBits .f32 0x00000000#32)) ||| BitVec.ofBool (decide (a = T 255)) = 1#1
    rw [T_top, Ideal.ofBits_zero_f32]
    rcases h with h | h
    · rw [decide_eq_true h]; cases decide (a = ⊤) <;> rfl
    · rw [decide_eq_true h]; cases decide (a = 0) <;> rfl

/-- and elsewhere one more than the floor of the logarithm. -/
theorem rexp_normal (a v : EReal) (h0 : a ≠ 0) (ht : a ≠ ⊤) (E : ℕ) (h1 : 1 ≤ E) (h2 : E ≤ 253) (hl : T E ≤ v) (hu : v < T (E + 1)) :
    rexp a v = ((((E : ℤ) - 126 : ℤ) : ℝ) : EReal) := by
  rw [T_pow E h1 (by omega)] at hl
  rw [T_pow (E + 1) (by omega) (by omega)] at hu
  have hv : v ≠ ⊤ := ne_top_of_lt hu
  have hv' : v ≠ ⊥ := ne_bot_of_le_ne_bot (EReal.coe_ne_bot _) hl
  lift v to ℝ using ⟨hv, hv'⟩ with r
  have hl' : (2 : ℝ) ^ ((E : ℤ) - 127) ≤ r := EReal.coe_le_coe_iff.mp hl
  have hu' : r < (2 : ℝ) ^ (((E + 1 : ℕ) : ℤ) - 127) := EReal.coe_lt_coe_iff.mp hu
  have hr : 0 < r := lt_of_lt_of_le (by positivity) hl'
  have hlog2 : 0 < Real.log 2 := Real.log_pos (by norm_num)
  unfold rexp
  rw [sel_false]
  · rw [two_lit, one_lit, Ideal.log_coe, Ideal.log_coe, if_neg (not_le.mpr hr), if_neg (by norm_num)]
    have hd : Ideal.div ((Real.log r : ℝ) : EReal) ((Real.log 2 : ℝ) : EReal) = ((Real.log r / Real.log 2 : ℝ) : EReal) := by
      unfold Ideal.div
      rw [if_neg (by exact_mod_cast hlog2.ne'), ← EReal.coe_inv, ← EReal.coe_mul]; rfl
    have hf : ⌊Real.log r / Real.log 2⌋ = (E : ℤ) - 127 := by
      rw [Int.floor_eq_iff]
      constructor
      · rw [le_div_iff₀ hlog2, ← Real.log_zpow]
        exact Real.log_le_log (by positivity) hl'
      · rw [div_lt_iff₀ hlog2]
        have e : ((((E : ℤ) - 127 : ℤ) : ℝ) + 1) = ((((E + 1 : ℕ) : ℤ) - 127 : ℤ) : ℝ) := by push_cast; ring
        rw [e, ← Real.log_zpow]
        exact Real.log_lt_log hr hu'
    rw [hd, Ideal.liftRound_coe, hf, ← EReal.coe_add]
    refine congrArg _ ?_
    push_cast; ring
  · show BitVec.ofBool (decide (a = Ideal.ofBits .f32 0x00000000#32)) ||| BitVec.ofBool (decide (a = T 255)) = 0#1
    rw [T_top, Ideal.ofBits_zero_f32, decide_eq_false h0, decide_eq_false ht]
    rfl

/-- The powers of two are in order. -/
theorem T_mono (a b : ℕ) (h1 : 1 ≤ a) (h : a ≤ b) (h2 : b ≤ 254) : T a ≤ T b := by
  rw [T_pow a h1 (by omega), T_pow b (by omega) h2]
  exact EReal.coe_le_coe_iff.mpr (zpow_le_zpow_right₀ (by norm_num) (by omega))

theorem T_pos (n : ℕ) (h1 : 1 ≤ n) (h2 : n ≤ 254) : 0 < T n := by
  rw [T_pow n h1 h2]
  exact EReal.coe_pos.mpr (by positivity)

/-- THE TWO SCALES AGREE, for zero, for infinity and for the normal numbers below `2 ^ 126`. -/
theorem agree (a v : EReal) (h0 : a = 0 ↔ v = 0) (ht : a = ⊤ ↔ v = ⊤) (hv : v = 0 ∨ v = ⊤ ∨ (T 1 ≤ v ∧ v < T 253)) :
    kscale v = Ideal.exp2 (rexp a v) ∧ kinv v = Ideal.exp2 (0 - rexp a v) := by
  obtain ⟨E, hf, hlo, h255, hhi⟩ := field_spec v
  have hk := kexp_of_field v E hf h255
  have h1 : Ideal.exp2 0 = T 127 := by
    have := exp2_int 0
    rw [T_pow 127 (by omega) (by omega)]
    simpa using this
  have hsp : (E = 0 ∨ E = 255) → (a = 0 ∨ a = ⊤) := by
    rintro (rfl | rfl)
    · rcases hhi with h | h
      · omega
      · rcases hv with hv | hv | hv
        · exact Or.inl (h0.mpr hv)
        · exact Or.inr (ht.mpr hv)
        · exact absurd hv.1 h
    · rcases hlo with h | h
      · omega
      · rw [T_top] at h; exact Or.inr (ht.mpr (top_le_iff.mp h))
  by_cases hE : E = 0 ∨ E = 255
  · rw [if_pos hE] at hk
    rw [rexp_special a v (hsp hE), sub_zero, h1]
    unfold kscale kinv
    rw [hk]
    exact ⟨rfl, rfl⟩
  · rw [if_neg hE] at hk
    have hl : T E ≤ v := hlo.resolve_left (by omega)
    have hu : v < T (E + 1) := not_le.mp (hhi.resolve_left (by omega))
    have n0 : v ≠ 0 := fun h => absurd hl (not_le.mpr (h ▸ T_pos E (by omega) (by omega)))
    have nt : v ≠ ⊤ := ne_top_of_lt hu
    have hE2 : E ≤ 252 := by
      by_contra hc
      have h := (hv.resolve_left n0).resolve_left nt
      exact absurd (lt_of_le_of_lt (le_trans (T_mono 253 E (by omega) (by omega) (by omega)) hl) h.2) (lt_irrefl _)
    rw [rexp_normal a v (fun h => n0 (h0.mp h)) (fun h => nt (ht.mp h)) E (by omega) (by omega) hl hu]
    unfold kscale kinv
    have w1 := scale_word ⟨E, by omega⟩
    have w2 := inv_word ⟨E, by omega⟩
    dsimp only at w1 w2
    rw [hk, w1, w2]
    constructor
    · rw [exp2_int]
      show T (E + 1) = _
      rw [T_pow (E + 1) (by omega) (by omega)]
      refine congrArg _ (congrArg _ ?_)
      push_cast; ring
    · rw [zero_sub, ← EReal.coe_neg, ← Int.cast_neg, exp2_int]
      show T (253 - E) = _
      rw [T_pow (253 - E) (by omega) (by omega)]
      refine congrArg _ (congrArg _ ?_)
      rw [Nat.cast_sub (by omega)]; push_cast; ring

end Cert.Exponent
end
-- ==== Proof.Blocks.lean ====
module

public import proofs.«01_k».proof.Proof.Final
public import proofs.«01_k».proof.Proof.Exponent
public import Idealize.ShloMosaic.PureOps.Ideal.Laws

@[expose] public section

set_option maxRecDepth 16384

noncomputable section

namespace Cert.Exponent

open Idealize.ShloMosaic

/-- The largest magnitude of a block, by what it is at most. -/
def IsMax (M : EReal) (x : Fin 128 → Fin 256 → EReal) : Prop := ∀ b : EReal, M ≤ b ↔ ∀ r c, max (x r c) (-(x r c)) ≤ b

theorem IsMax.unique {M M' : EReal} {x : Fin 128 → Fin 256 → EReal} (h : IsMax M x) (h' : IsMax M' x) : M = M' :=
  le_antisymm ((h M').mpr ((h' M').mp le_rfl)) ((h' M).mpr ((h M).mp le_rfl))

theorem neg_inf : Ideal.ofBits .f32 0xFF800000#32 = ⊥ := by
  show Ideal.ieee 8 23 0xFF800000#32 = ⊥
  unfold Ideal.ieee
  dsimp only
  rw [if_pos (by decide), if_pos (by decide)]
  rfl

/-- A maximum over axes is at most `b` when every element it ranges over is. -/
theorem red_le {s t : Shape} {axes : List (Fin s.rank)} (src : FVec Ideal s .f32) (h : s.Reduces axes t) (hφ : FKind.Formats .f32)
    (hacc : 0xFF800000#32 = FKind.maximumf.neutral .f32 hφ) (j : t.Idx) (b : EReal) :
    multiReduction .maximumf axes t src 0xFF800000#32 h hφ hacc j ≤ b ↔ ∀ i, h.drop i = j → src i ≤ b := by
  rw [multiReduction_maximumf_eq_fold]
  show Finset.fold max (Ideal.ofBits .f32 0xFF800000#32) src _ ≤ b ↔ _
  rw [Finset.fold_max_le, neg_inf]
  simp

/-- The constant `1 / 448` as a 32-bit float. -/
def inv448 : EReal := Ideal.ofBits .f32 0x3B124925#32
theorem inv448_eq : inv448 = (((9586981 : ℝ) * 2 ^ (-32 : ℤ) : ℝ) : EReal) := by
  show Ideal.ieee 8 23 0x3B124925#32 = _
  unfold Ideal.ieee
  dsimp only
  rw [if_neg (by decide), if_neg (by decide), if_neg (by decide)]
  refine congrArg _ ?_
  rw [show (BitVec.extractLsb' 23 8 0x3B124925#32).toNat = 118 by decide, show (BitVec.extractLsb' 0 23 0x3B124925#32).toNat = 1198373 by decide]
  norm_num
/-- Scaling keeps zero and infinity, and only them, what they are. -/
theorem scaled_zero (a : EReal) : a = 0 ↔ a * inv448 = 0 := by
  rw [inv448_eq, mul_eq_zero]
  exact ⟨Or.inl, fun h => h.resolve_right (EReal.coe_ne_zero.mpr (by positivity))⟩
theorem scaled_top (a : EReal) : a = ⊤ ↔ a * inv448 = ⊤ := by
  rw [inv448_eq]
  constructor
  · rintro rfl
    exact EReal.top_mul_coe_of_pos (by positivity)
  · intro h
    induction a with
    | top => rfl
    | bot => rw [EReal.bot_mul_coe_of_pos (by positivity)] at h; exact absurd h bot_ne_top
    | coe r => rw [← EReal.coe_mul] at h; exact absurd h (EReal.coe_ne_top _)

end Cert.Exponent

namespace Cert.KernelIdeal.Hand

open Idealize.ShloMosaic Idealize.ShloMosaic.TcCoe Idealize.ShloMosaic.Tactic
open Cert.KernelIdeal.Gen Cert.Exponent

/-- A row slice of a block, at an index. -/
theorem slice_rows (x : S128x256.Idx → EReal) (o : ℕ) (h : S128x256.Slices ![o, 0] S16x256) (r : Fin 16) (c : Fin 256) (ho : o ≤ 112) :
    extractStridedSlice S16x256 ![o, 0] x h (ix2 r c) = x (ix2 ⟨o + r.val, by omega⟩ c) :=
  extractStridedSlice_apply _ _ _ _ _ fun a => by
    match a with
    | ⟨0, _⟩ => rfl
    | ⟨1, _⟩ => exact (Nat.zero_add _).symm
/-- A column slice of sixteen rows, at an index. -/
theorem slice_cols (x : S16x256.Idx → EReal) (o : ℕ) (h : S16x256.Slices ![0, o] S16x128) (r : Fin 16) (c : Fin 128) (ho : o ≤ 128) :
    extractStridedSlice S16x128 ![0, o] x h (ix2 r c) = x (ix2 r ⟨o + c.val, by omega⟩) :=
  extractStridedSlice_apply _ _ _ _ _ fun a => by
    match a with
    | ⟨0, _⟩ => exact (Nat.zero_add _).symm
    | ⟨1, _⟩ => rfl

/-- The kernel's maximum of sixteen-row slices and of the two halves of their columns. -/
def halves (a : S128x256.Idx → EReal) : S16x128.Idx → EReal :=
  let v : S16x256.Idx → EReal := maximumf (F := Ideal) (φ := .bf16) (maximumf (F := Ideal) (φ := .bf16) (maximumf (F := Ideal) (φ := .bf16) (maximumf (F := Ideal) (φ := .bf16) (maximumf (F := Ideal) (φ := .bf16) (maximumf (F := Ideal) (φ := .bf16) (maximumf (F := Ideal) (φ := .bf16)
    (extractStridedSlice S16x256 ![0, 0] a slices_S128x256_o0_0_S16x256) (extractStridedSlice S16x256 ![16, 0] a slices_S128x256_o16_0_S16x256))
    (extractStridedSlice S16x256 ![32, 0] a slices_S128x256_o32_0_S16x256)) (extractStridedSlice S16x256 ![48, 0] a slices_S128x256_o48_0_S16x256))
    (extractStridedSlice S16x256 ![64, 0] a slices_S128x256_o64_0_S16x256)) (extractStridedSlice S16x256 ![80, 0] a slices_S128x256_o80_0_S16x256))
    (extractStridedSlice S16x256 ![96, 0] a slices_S128x256_o96_0_S16x256)) (extractStridedSlice S16x256 ![112, 0] a slices_S128x256_o112_0_S16x256)
  maximumf (F := Ideal) (φ := .bf16) (extractStridedSlice S16x128 ![0, 0] v slices_S16x256_o0_0_S16x128) (extractStridedSlice S16x128 ![0, 128] v slices_S16x256_o0_128_S16x128)

theorem max_apply {s : Shape} (a b : s.Idx → EReal) (i : s.Idx) : maximumf (F := Ideal) (φ := .bf16) a b i = max (a i) (b i) := rfl

theorem halves_le (a : S128x256.Idx → EReal) (b : EReal) :
    (∀ r c, halves a (ix2 r c) ≤ b) ↔ ∀ r c, a (ix2 r c) ≤ b := by
  have key : ∀ r c, halves a (ix2 r c) ≤ b ↔ ∀ (k : Fin 8) (l : Fin 2), a (ix2 ⟨16 * k.val + r.val, by omega⟩ ⟨128 * l.val + c.val, by omega⟩) ≤ b := by
    intro r c
    unfold halves
    simp only [max_apply, slice_cols _ _ _ _ _ (show 0 ≤ 128 by omega), slice_cols _ _ _ _ _ (show 128 ≤ 128 by omega),
      slice_rows _ _ _ _ _ (show 0 ≤ 112 by omega), slice_rows _ _ _ _ _ (show 16 ≤ 112 by omega), slice_rows _ _ _ _ _ (show 32 ≤ 112 by omega),
      slice_rows _ _ _ _ _ (show 48 ≤ 112 by omega), slice_rows _ _ _ _ _ (show 64 ≤ 112 by omega), slice_rows _ _ _ _ _ (show 80 ≤ 112 by omega),
      slice_rows _ _ _ _ _ (show 96 ≤ 112 by omega), slice_rows _ _ _ _ _ (show 112 ≤ 112 by omega), max_le_iff]
    constructor
    · rintro ⟨⟨⟨⟨⟨⟨⟨⟨h0, h1⟩, h2⟩, h3⟩, h4⟩, h5⟩, h6⟩, h7⟩, ⟨⟨⟨⟨⟨⟨g0, g1⟩, g2⟩, g3⟩, g4⟩, g5⟩, g6⟩, g7⟩ k l
      match k, l with
      | 0, 0 => exact h0
      | 1, 0 => exact h1
      | 2, 0 => exact h2
      | 3, 0 => exact h3
      | 4, 0 => exact h4
      | 5, 0 => exact h5
      | 6, 0 => exact h6
      | 7, 0 => exact h7
      | 0, 1 => exact g0
      | 1, 1 => exact g1
      | 2, 1 => exact g2
      | 3, 1 => exact g3
      | 4, 1 => exact g4
      | 5, 1 => exact g5
      | 6, 1 => exact g6
      | 7, 1 => exact g7
    · intro h
      exact ⟨⟨⟨⟨⟨⟨⟨⟨h 0 0, h 1 0⟩, h 2 0⟩, h 3 0⟩, h 4 0⟩, h 5 0⟩, h 6 0⟩, h 7 0⟩,
        ⟨⟨⟨⟨⟨⟨h 0 1, h 1 1⟩, h 2 1⟩, h 3 1⟩, h 4 1⟩, h 5 1⟩, h 6 1⟩, h 7 1⟩
  constructor
  · intro h r c
    have := (key ⟨r.val % 16, by omega⟩ ⟨c.val % 128, by omega⟩).mp (h _ _) ⟨r.val / 16, by omega⟩ ⟨c.val / 128, by omega⟩
    have e1 : 16 * (r.val / 16) + r.val % 16 = r.val := by omega
    have e2 : 128 * (c.val / 128) + c.val % 128 = c.val := by omega
    simp only [e1, e2] at this
    exact this
  · exact fun h r c => (key r c).mpr fun k l => h _ _

/-- The one element of a vector of one. -/
theorem pop (M : S1.Idx → EReal) : extractAt ![0, 0, 0] (shapeCast S1x1x1 M shapeCasts_S1_S1x1x1) inpos_S1x1x1_p0_0_0 = M (ix1 0) := by
  unfold extractAt
  refine shapeCast_apply _ _ _ (ix1 0) ?_
  rw [Shape.rowMajor_val_one, Shape.rowMajor_val_three]; rfl

/-- That element times the constant, spread over a vector. -/
def spread (M : S1.Idx → EReal) : FVec Ideal S8x128 .f32 :=
  mulf (broadcastTo S8x128 (shapeCast S1x1 (broadcast S1x1 (extractAt ![0, 0, 0] (shapeCast S1x1x1 M shapeCasts_S1_S1x1x1) inpos_S1x1x1_p0_0_0)) shapeCasts_S1x1_S1x1) broadcasts_S1x1_S8x128)
    (broadcast S8x128 (Scalar.ofBits .f32 0x3B124925#32))
theorem spread_apply (M : S1.Idx → EReal) (i) : spread M i = M (ix1 0) * inv448 := by
  unfold spread
  rw [shapeCast_self]
  refine congrArg (· * inv448) ?_
  refine (broadcastTo_apply _ _ _ (ix2 0 0) fun a => ?_).trans ?_
  · match a with
    | ⟨0, _⟩ => rfl
    | ⟨1, _⟩ => rfl
  · exact pop M

/-- The largest magnitude of a block, as the kernel reduces it. -/
def blockMax (X : FVec Ideal S128x256 .bf16) : S1.Idx → EReal :=
  multiReduction (F := Ideal) .maximumf [1, 2] S1 (shapeCast S1x16x128 (extf (F := Ideal) .f32 (halves (absf (F := Ideal) (φ := .bf16) X)) bitsLt_bf16_f32) shapeCasts_S16x128_S1x16x128) 0xFF800000#32 reduces_S1x16x128_S1 (.inl rfl) rfl
theorem pay5_eq (X : Vec Ideal S128x256 .bf16) : k0_pay5 X = spread (blockMax (k0_pay4 X)) := rfl

/-- The block's scaled maximum is one number: -/
theorem bV_spec (X : Vec Ideal S128x256 .bf16) : ∃ M, IsMax M (fun r c => X (ix2 r c)) ∧ ∀ i, bV X i = M * inv448 := by
  refine ⟨blockMax X (ix1 0), ?_, ?_⟩
  · intro b
    refine (red_le _ reduces_S1x16x128_S1 (.inl rfl) rfl _ b).trans ?_
    have e : (∀ r c, max (X (ix2 r c)) (-(X (ix2 r c))) ≤ b) ↔ ∀ r c, halves (absf (F := Ideal) (φ := .bf16) X) (ix2 r c) ≤ b :=
      (halves_le (absf (F := Ideal) (φ := .bf16) X) b).symm
    refine Iff.trans ?_ e.symm
    have cast : ∀ (i : S1x16x128.Idx), shapeCast S1x16x128 (extf (F := Ideal) (φ := .bf16) .f32 (halves (absf (F := Ideal) (φ := .bf16) X)) bitsLt_bf16_f32) shapeCasts_S16x128_S1x16x128 i
        = halves (absf (F := Ideal) (φ := .bf16) X) (ix2 (i 1) (i 2)) := fun i => by
      refine (shapeCast_apply _ _ _ (ix2 (i 1) (i 2)) ?_).trans rfl
      have h0 : (i 0).val < 1 := (i 0).isLt
      rw [Shape.rowMajor_val_two, Shape.rowMajor_val_three]
      show (i 1).val * 128 + (i 2).val = ((i 0).val * 16 + (i 1).val) * 128 + (i 2).val
      omega
    constructor
    · intro h r c
      refine (cast (ix3 0 r c)).symm.le.trans (h (ix3 0 r c) (funext fun a => Fin.ext ?_))
      match a with
      | ⟨0, _⟩ =>
        have h1 : (reduces_S1x16x128_S1.drop (ix3 0 r c) ⟨0, Nat.zero_lt_one⟩).val < 1 := (reduces_S1x16x128_S1.drop (ix3 0 r c) ⟨0, Nat.zero_lt_one⟩).isLt
        show (reduces_S1x16x128_S1.drop (ix3 0 r c) ⟨0, Nat.zero_lt_one⟩).val = 0
        omega
    · intro h i _
      exact (cast i).le.trans (h _ _)
  · intro i
    unfold bV
    rw [pay5_eq, spread_apply]
    unfold k0_pay4
    rw [shapeCast_self]

/-- that number. -/
def bv (X : Vec Ideal S128x256 .bf16) : EReal := bV X (ix2 0 0)
theorem bv_max (X : Vec Ideal S128x256 .bf16) : ∃ M, IsMax M (fun r c => X (ix2 r c)) ∧ bv X = M * inv448 :=
  let ⟨M, h, e⟩ := bV_spec X
  ⟨M, h, e _⟩
theorem bV_const (X : Vec Ideal S128x256 .bf16) (i) : bV X i = bv X := by
  obtain ⟨M, h, e⟩ := bV_spec X
  rw [e, bv, e]

/-- One bit of the search, over a vector. -/
def stepV (v : FVec Ideal S8x128 .f32) (E : IVec S8x128 32) (b : BitVec 32) : IVec S8x128 32 :=
  select (cmpf .oge v (bitcastToFloat .f32 (shli (addi E (broadcast S8x128 b)) (broadcast S8x128 23#32)))) (addi E (broadcast S8x128 b)) E
theorem stepV_apply (v : FVec Ideal S8x128 .f32) (E : IVec S8x128 32) (b : BitVec 32) (i) : stepV v E b i = step (v i) (E i) b := rfl

theorem search7 (v : FVec Ideal S8x128 .f32) : k0_pay7 v k0_pay6 128#32
    = stepV v (stepV v (stepV v (stepV v (stepV v (stepV v k0_pay6 128#32) 64#32) 32#32) 16#32) 8#32) 4#32 := rfl
theorem search10 (v : FVec Ideal S8x128 .f32) (E : IVec S8x128 32) :
    k0_pay10 v E (addi E (broadcast S8x128 2#32)) (bitcastToFloat .f32 (shli (addi E (broadcast S8x128 2#32)) (broadcast S8x128 23#32)))
    = select (ori (cmpi .eq (stepV v (stepV v E 2#32) 1#32) (broadcast S8x128 0#32)) (cmpi .eq (stepV v (stepV v E 2#32) 1#32) (broadcast S8x128 255#32)))
      (broadcast S8x128 0#32) (subi (stepV v (stepV v E 2#32) 1#32) (broadcast S8x128 126#32)) := rfl
theorem search_apply (v : FVec Ideal S8x128 .f32) (i) :
    k0_pay10 v (k0_pay7 v k0_pay6 128#32) (k0_pay8 v k0_pay6 128#32) (k0_pay9 v k0_pay6 128#32) i = kexp (v i) := by
  refine (congrFun (search10 v (k0_pay7 v k0_pay6 128#32)) i).trans ?_
  have e : stepV v (stepV v (k0_pay7 v k0_pay6 128#32) 2#32) 1#32 i = field (v i) := by
    rw [search7]
    simp only [stepV_apply]
    rfl
  show Scalar.select (IntOp.ori (IntOp.cmpi .eq (stepV v (stepV v (k0_pay7 v k0_pay6 128#32) 2#32) 1#32 i) 0#32) (IntOp.cmpi .eq (stepV v (stepV v (k0_pay7 v k0_pay6 128#32) 2#32) 1#32 i) 255#32)) 0#32
    (IntOp.subi (stepV v (stepV v (k0_pay7 v k0_pay6 128#32) 2#32) 1#32 i) 126#32) = _
  rw [e]
  rfl

/-- The block's scale, -/
theorem bScale_apply (X : Vec Ideal S128x256 .bf16) (i) : bScale X i = kscale (bv X) := by
  have h := search_apply (bV X) i
  rw [bV_const] at h
  unfold bScale k0_pay11
  show word (IntOp.addi (k0_pay10 (bV X) (k0_pay7 (bV X) k0_pay6 128#32) (k0_pay8 (bV X) k0_pay6 128#32) (k0_pay9 (bV X) k0_pay6 128#32) i) 127#32) = _
  rw [h]
  rfl

/-- A number taken from the corner of a vector and spread over a block, at an index. -/
theorem corner_apply (x : S8x128.Idx → EReal) (z : S128x256.Idx) :
    broadcastTo S128x256 (shapeCast S1x1 (extractStridedSlice S1x1 ![0, 0] x slices_S8x128_o0_0_S1x1) shapeCasts_S1x1_S1x1) broadcasts_S1x1_S128x256 z = x (ix2 0 0) := by
  rw [shapeCast_self]
  refine (broadcastTo_apply _ _ _ (ix2 0 0) fun a => ?_).trans ?_
  · match a with
    | ⟨0, _⟩ => rfl
    | ⟨1, _⟩ => rfl
  · exact extractStridedSlice_apply _ _ _ _ _ fun a => by
      match a with
      | ⟨0, _⟩ => rfl
      | ⟨1, _⟩ => rfl

theorem corner_trunc (x : FVec Ideal S8x128 .f32) (z : S128x256.Idx) :
    truncf .bf16 (broadcastTo S128x256 (shapeCast S1x1 (extractStridedSlice S1x1 ![0, 0] x slices_S8x128_o0_0_S1x1) shapeCasts_S1x1_S1x1) broadcasts_S1x1_S128x256) bitsLt_bf16_f32 z = x (ix2 0 0) :=
  corner_apply x z

theorem bPre_apply (X : Vec Ideal S128x256 .bf16) (z) : bPre X z = X z * kinv (bv X) := by
  have h := search_apply (bV X) (ix2 0 0)
  rw [bV_const] at h
  unfold bPre k0_pay14 k0_pay4
  rw [shapeCast_self]
  refine congrArg (X z * ·) ?_
  refine (corner_trunc _ z).trans ?_
  show word (IntOp.subi 127#32 (k0_pay10 (bV X) (k0_pay7 (bV X) k0_pay6 128#32) (k0_pay8 (bV X) k0_pay6 128#32) (k0_pay9 (bV X) k0_pay6 128#32) (ix2 0 0))) = _
  rw [h]
  rfl

/-- its codes -/
theorem bCodes_apply (X : Vec Ideal S128x256 .bf16) (z) : bCodes X z
    = min (Ideal.ofBits .f32 0x43E00000#32) (max (Ideal.ofBits .f32 0xC3E00000#32) (X z * kinv (bv X))) := by
  rw [← bPre_apply]; rfl
/-- and its codes at their scale. -/
theorem bXa_apply (X : Vec Ideal S128x256 .bf16) (r : Fin 128) (c : Fin 256) : bXa X (ix3 0 r c) = bCodes X (ix2 r c) * kscale (bv X) := by
  unfold bXa k0_pay16
  refine (shapeCast_apply _ _ _ (ix2 r c) ?_).trans ?_
  · rw [Shape.rowMajor_val_two, Shape.rowMajor_val_three]
    show r.val * 256 + c.val = (0 * 128 + r.val) * 256 + c.val
    omega
  rw [shapeCast_self]
  refine congrArg (bCodes X (ix2 r c) * ·) ?_
  unfold k0_pay13
  refine (corner_trunc _ (ix2 r c)).trans ?_
  exact bScale_apply X (ix2 0 0)

end Cert.KernelIdeal.Hand
end
-- ==== Proof.RefValue.lean ====
/- The reference's stored values over the extended reals, element by element. -/
module

public import proofs.«01_k».proof.Proof.RefRun
public import proofs.«01_k».proof.Proof.Blocks
public import Idealize.ShloMosaic.Lib.Pointwise.Contract

@[expose] public section

set_option maxRecDepth 16384

noncomputable section

namespace Cert.ReferenceIdeal.Hand

open Cert.ReferenceIdeal Cert.ReferenceIdeal.Gen Idealize.ShloMosaic Cert.Exponent

/-- The largest magnitudes of the blocks. -/
def amax (x : FVec Ideal S16384x5120 .f32) : FVec Ideal S128x20 .f32 :=
  multiReduction (F := Ideal) .maximumf [1, 3] S128x20 (absf (F := Ideal) (φ := .f32) (shapeCast S128x128x20x256 x shapeCasts_S16384x5120_S128x128x20x256)) 0xFF800000#32 reduces_S128x128x20x256_S128x20 (.inl rfl) rfl
/-- The exponents, of the largest magnitudes. -/
def exps (a : FVec Ideal S128x20 .f32) : FVec Ideal S128x20 .f32 :=
  select (ori (cmpf .oeq a (broadcast S128x20 (Scalar.ofBits .f32 0x00000000#32)))
      (cmpf .oeq a (broadcast S128x20 (Scalar.ofBits .f32 0x7F800000#32))))
    (broadcast S128x20 (Scalar.ofBits .f32 0x00000000#32))
    (addf (floor (divf (log (mulf a (broadcast S128x20 (Scalar.ofBits .f32 0x3B124925#32)))) (log (broadcast S128x20 (Scalar.ofBits .f32 0x40000000#32)))))
      (broadcast S128x20 (Scalar.ofBits .f32 0x3F800000#32)))
theorem exps_apply (a : FVec Ideal S128x20 .f32) (i) : exps a i = rexp (a i) (a i * inv448) := rfl
theorem pay3_eq (x : Vec Ideal S16384x5120 .bf16) : k0_pay3 x = exps (amax (k0_pay2 x)) := rfl
theorem pay4_eq (x : Vec Ideal S16384x5120 .bf16) : k0_pay4 x = exp2 (k0_pay3 x) := rfl
theorem exp2_apply (a : FVec Ideal S128x20 .f32) (i) : exp2 a i = Ideal.exp2 (a i) := rfl

theorem pay2_eq (x : Vec Ideal S16384x5120 .bf16) : k0_pay2 x = x := by
  unfold k0_pay2
  rw [shapeCast_self]
  rfl

/-- One element of the matrix, laid out block row by block row. -/
theorem split_apply (x : S16384x5120.Idx → EReal) (i : S128x128x20x256.Idx) :
    shapeCast S128x128x20x256 x shapeCasts_S16384x5120_S128x128x20x256 i
      = x (ix2 ⟨128 * (i 0).val + (i 1).val, by have h0 : (i 0).val < 128 := (i 0).isLt; have h1 : (i 1).val < 128 := (i 1).isLt; omega⟩
          ⟨256 * (i 2).val + (i 3).val, by have h0 : (i 2).val < 20 := (i 2).isLt; have h1 : (i 3).val < 256 := (i 3).isLt; omega⟩) := by
  refine shapeCast_apply _ _ _ _ ?_
  rw [Shape.rowMajor_val_two, Shape.rowMajor_val_four]
  show (128 * (i 0).val + (i 1).val) * 5120 + (256 * (i 2).val + (i 3).val) = (((i 0).val * 128 + (i 1).val) * 20 + (i 2).val) * 256 + (i 3).val
  omega

/-- A block's largest magnitude is that of its elements. -/
theorem amax_max (x : FVec Ideal S16384x5120 .f32) (B : Fin 128) (g : Fin 20) :
    IsMax (amax x (ix2 B g)) (fun r c => x (ix2 ⟨128 * B.val + r.val, by omega⟩ ⟨256 * g.val + c.val, by omega⟩)) := by
  intro b
  refine (red_le _ reduces_S128x128x20x256_S128x20 (.inl rfl) rfl _ b).trans ?_
  have cast : ∀ i : S128x128x20x256.Idx, absf (F := Ideal) (φ := .f32) (shapeCast S128x128x20x256 x shapeCasts_S16384x5120_S128x128x20x256) i
      = max (shapeCast S128x128x20x256 x shapeCasts_S16384x5120_S128x128x20x256 i) (-(shapeCast S128x128x20x256 x shapeCasts_S16384x5120_S128x128x20x256 i)) := fun i => rfl
  have d0 : ∀ i : S128x128x20x256.Idx, (reduces_S128x128x20x256_S128x20.drop i 0 : Nat) = i 0 := fun i =>
    Shape.Reduces.drop_apply_val_of_eq _ i 0 0 (by decide) (by decide)
  have d1 : ∀ i : S128x128x20x256.Idx, (reduces_S128x128x20x256_S128x20.drop i 1 : Nat) = i 2 := fun i =>
    Shape.Reduces.drop_apply_val_of_eq _ i 1 2 (by decide) (by decide)
  constructor
  · intro h r c
    have := h (ix4 B r g c) (funext fun a => Fin.ext ?_)
    · rw [cast, split_apply] at this
      exact this
    · match a with
      | ⟨0, _⟩ => exact d0 _
      | ⟨1, _⟩ => exact d1 _
  · intro h i hi
    have e0 : (i 0).val = B.val := (d0 i).symm.trans (congrArg (fun j : S128x20.Idx => (j 0).val) hi)
    have e1 : (i 2).val = g.val := (d1 i).symm.trans (congrArg (fun j : S128x20.Idx => (j 1).val) hi)
    rw [cast, split_apply]
    simp only [e0, e1]
    exact h (i 1) (i 3)

/-- One number per block, spread over the block's rows, at a row. -/
theorem rows_apply (s : S128x20.Idx → EReal) (r : Fin 16384) (g : Fin 20) :
    shapeCast S16384x20 (broadcastTo S128x128x20 (shapeCast S128x1x20 s shapeCasts_S128x20_S128x1x20) broadcasts_S128x1x20_S128x128x20) shapeCasts_S128x128x20_S16384x20 (ix2 r g)
      = s (ix2 ⟨r.val / 128, by omega⟩ g) := by
  refine (shapeCast_apply _ _ _ (ix3 ⟨r.val / 128, by omega⟩ ⟨r.val % 128, by omega⟩ g) ?_).trans ?_
  · rw [Shape.rowMajor_val_two, Shape.rowMajor_val_three]
    show (r.val / 128 * 128 + r.val % 128) * 20 + g.val = r.val * 20 + g.val
    omega
  refine (broadcastTo_apply _ _ _ (ix3 ⟨r.val / 128, by omega⟩ 0 g) fun a => ?_).trans ?_
  · match a with
    | ⟨0, _⟩ => rfl
    | ⟨1, _⟩ => rfl
    | ⟨2, _⟩ => rfl
  refine shapeCast_apply _ _ _ _ ?_
  rw [Shape.rowMajor_val_two, Shape.rowMajor_val_three]
  show r.val / 128 * 20 + g.val = (r.val / 128 * 1 + 0) * 20 + g.val
  omega

/-- And over its columns. -/
theorem cols_apply (s : S16384x20.Idx → EReal) (r : Fin 16384) (g : Fin 20) (c : Fin 256) :
    broadcastTo S16384x20x256 (shapeCast S16384x20x1 s shapeCasts_S16384x20_S16384x20x1) broadcasts_S16384x20x1_S16384x20x256 (ix3 r g c) = s (ix2 r g) := by
  refine (broadcastTo_apply _ _ _ (ix3 r g 0) fun a => ?_).trans ?_
  · match a with
    | ⟨0, _⟩ => rfl
    | ⟨1, _⟩ => rfl
    | ⟨2, _⟩ => rfl
  refine shapeCast_apply _ _ _ _ ?_
  rw [Shape.rowMajor_val_two, Shape.rowMajor_val_three]
  show r.val * 20 + g.val = (r.val * 20 + g.val) * 1 + 0
  omega

/-- The matrix with its columns grouped. -/
theorem group_apply (x : S16384x5120.Idx → EReal) (r : Fin 16384) (g : Fin 20) (c : Fin 256) :
    shapeCast S16384x20x256 x shapeCasts_S16384x5120_S16384x20x256 (ix3 r g c) = x (ix2 r ⟨256 * g.val + c.val, by omega⟩) := by
  refine shapeCast_apply _ _ _ _ ?_
  rw [Shape.rowMajor_val_two, Shape.rowMajor_val_three]
  show r.val * 5120 + (256 * g.val + c.val) = (r.val * 20 + g.val) * 256 + c.val
  omega

/-- And a matrix read back off the groups. -/
theorem ungroup_apply (x : S16384x20x256.Idx → EReal) (r : Fin 16384) (k : Fin 5120) :
    shapeCast S16384x5120 x shapeCasts_S16384x20x256_S16384x5120 (ix2 r k) = x (ix3 r ⟨k.val / 256, by omega⟩ ⟨k.val % 256, by omega⟩) := by
  refine shapeCast_apply _ _ _ _ ?_
  rw [Shape.rowMajor_val_two, Shape.rowMajor_val_three]
  show (r.val * 20 + k.val / 256) * 256 + k.val % 256 = r.val * 5120 + k.val
  omega

/-- The inverse scale of a block. -/
def inverse (e : FVec Ideal S128x20 .f32) : FVec Ideal S128x20 .f32 :=
  exp2 (subf (broadcast S128x20 (Scalar.ofBits .f32 0x00000000#32)) e)

theorem zero_bits : Ideal.ofBits .f32 0x00000000#32 = 0 := by
  show Ideal.ieee 8 23 0x00000000#32 = _
  unfold Ideal.ieee
  dsimp only
  rw [if_neg (by decide), if_pos (by decide)]
  norm_num

theorem inverse_apply (e : FVec Ideal S128x20 .f32) (i) : inverse e i = Ideal.exp2 (0 - e i) := by
  rw [← zero_bits]; rfl

/-- The scales. -/
theorem pay4_apply (x : Vec Ideal S16384x5120 .bf16) (i) : k0_pay4 x i = Ideal.exp2 (rexp (amax x i) (amax x i * inv448)) := by
  rw [pay4_eq, exp2_apply, pay3_eq, exps_apply, pay2_eq]

/-- A matrix with its columns grouped, each block times its number. -/
def groups {φ : FTy} (v : FVec Ideal S16384x5120 φ) (s : FVec Ideal S128x20 φ) : FVec Ideal S16384x20x256 φ :=
  mulf (shapeCast S16384x20x256 v shapeCasts_S16384x5120_S16384x20x256)
    (broadcastTo S16384x20x256 (shapeCast S16384x20x1 (shapeCast S16384x20 (broadcastTo S128x128x20 (shapeCast S128x1x20 s shapeCasts_S128x20_S128x1x20) broadcasts_S128x1x20_S128x128x20) shapeCasts_S128x128x20_S16384x20) shapeCasts_S16384x20_S16384x20x1) broadcasts_S16384x20x1_S16384x20x256)
theorem mulf_at {φ : FTy} {s : Shape} (a b : FVec Ideal s φ) (i : s.Idx) : mulf a b i = (a i * b i : EReal) := rfl
theorem groups_apply {φ : FTy} (v : FVec Ideal S16384x5120 φ) (s : FVec Ideal S128x20 φ) (r : Fin 16384) (g : Fin 20) (c : Fin 256) :
    groups v s (ix3 r g c) = (v (ix2 r ⟨256 * g.val + c.val, by omega⟩) * s (ix2 ⟨r.val / 128, by omega⟩ g) : EReal) := by
  unfold groups
  refine (mulf_at _ _ _).trans ?_
  exact congrArg₂ (fun a b : EReal => a * b) (group_apply v r g c) ((cols_apply _ r g c).trans (rows_apply s r g))

/-- The codes limited to what the eight-bit format holds. -/
def clipped (v : FVec Ideal S16384x20x256 .f32) : FVec Ideal S16384x20x256 .fp8e4m3 :=
  truncf .fp8e4m3 (minimumf (broadcast S16384x20x256 (Scalar.ofBits .f32 0x43E00000#32)) (maximumf (broadcast S16384x20x256 (Scalar.ofBits .f32 0xC3E00000#32)) v)) bitsLt_fp8e4m3_f32

theorem clipped_apply (v : FVec Ideal S16384x20x256 .f32) (i) :
    clipped v i = min (Ideal.ofBits .f32 0x43E00000#32) (max (Ideal.ofBits .f32 0xC3E00000#32) (v i)) := rfl

theorem pay5_eq (x : Vec Ideal S16384x5120 .bf16) :
    k0_pay5 x = shapeCast S16384x5120 (clipped (groups (k0_pay2 x) (inverse (k0_pay3 x)))) shapeCasts_S16384x20x256_S16384x5120 := rfl

/-- The codes. -/
theorem pay5_apply (x : Vec Ideal S16384x5120 .bf16) (r : Fin 16384) (k : Fin 5120) :
    k0_pay5 x (ix2 r k) = min (Ideal.ofBits .f32 0x43E00000#32) (max (Ideal.ofBits .f32 0xC3E00000#32)
      (x (ix2 r k) * Ideal.exp2 (0 - rexp (amax x (ix2 ⟨r.val / 128, by omega⟩ ⟨k.val / 256, by omega⟩)) (amax x (ix2 ⟨r.val / 128, by omega⟩ ⟨k.val / 256, by omega⟩) * inv448)))) := by
  refine (congrFun (pay5_eq x) _).trans ((ungroup_apply _ r k).trans ?_)
  rw [clipped_apply, groups_apply, inverse_apply, pay3_eq, exps_apply, pay2_eq]
  have e : 256 * (k.val / 256) + k.val % 256 = k.val := by omega
  simp only [e]

theorem pay6_eq (x : Vec Ideal S16384x5120 .bf16) :
    k0_pay6 x = groups (extf .bf16 (k0_pay5 x) bitsLt_fp8e4m3_bf16) (truncf .bf16 (k0_pay4 x) bitsLt_bf16_f32) := rfl
theorem extf_at {φ ψ : FTy} {s : Shape} (a : FVec Ideal s φ) (h) (i : s.Idx) : extf ψ a h i = (a i : EReal) := rfl
theorem truncf_at {φ ψ : FTy} {s : Shape} (a : FVec Ideal s φ) (h) (i : s.Idx) : truncf ψ a h i = (a i : EReal) := rfl

/-- The codes at their scales. -/
theorem pay6_apply (x : Vec Ideal S16384x5120 .bf16) (r : Fin 16384) (k : Fin 5120) :
    shapeCast S16384x5120 (k0_pay6 x) shapeCasts_S16384x20x256_S16384x5120 (ix2 r k)
      = (k0_pay5 x (ix2 r k) * k0_pay4 x (ix2 ⟨r.val / 128, by omega⟩ ⟨k.val / 256, by omega⟩) : EReal) := by
  refine (ungroup_apply (k0_pay6 x) r k).trans ?_
  refine (congrFun (pay6_eq x) _).trans ((groups_apply _ _ _ _ _).trans ?_)
  refine congrArg₂ (fun a b : EReal => a * b) ((extf_at (ψ := .bf16) (k0_pay5 x) bitsLt_fp8e4m3_bf16 _).trans ?_) (truncf_at (ψ := .bf16) (k0_pay4 x) bitsLt_bf16_f32 _)
  have e : 256 * (k.val / 256) + k.val % 256 = k.val := by omega
  simp only [e]

/-- The weights at their scales, before they are laid out as one matrix. -/
def weights (w : FVec Ideal S5120x8960 .bf16) (s : FVec Ideal S20x35 .bf16) : FVec Ideal S5120x8960 .bf16 :=
  shapeCast S5120x8960 (mulf (shapeCast S20x256x35x256 w shapeCasts_S5120x8960_S20x256x35x256)
    (broadcastTo S20x256x35x256 (shapeCast S20x1x35x1 s shapeCasts_S20x35_S20x1x35x1) broadcasts_S20x1x35x1_S20x256x35x256)) shapeCasts_S20x256x35x256_S5120x8960

theorem weights_apply (w : FVec Ideal S5120x8960 .bf16) (s : FVec Ideal S20x35 .bf16) (k : Fin 5120) (n : Fin 8960) :
    weights w s (ix2 k n) = w (ix2 k n) * s (ix2 ⟨k.val / 256, by omega⟩ ⟨n.val / 256, by omega⟩) := by
  refine (shapeCast_apply _ _ _ (ix4 ⟨k.val / 256, by omega⟩ ⟨k.val % 256, by omega⟩ ⟨n.val / 256, by omega⟩ ⟨n.val % 256, by omega⟩) ?_).trans ?_
  · rw [Shape.rowMajor_val_two, Shape.rowMajor_val_four]
    show ((k.val / 256 * 256 + k.val % 256) * 35 + n.val / 256) * 256 + n.val % 256 = k.val * 8960 + n.val
    omega
  refine (mulf_at _ _ _).trans ?_
  refine congrArg₂ (fun a b : EReal => a * b) ?_ ?_
  · refine shapeCast_apply _ _ _ _ ?_
    rw [Shape.rowMajor_val_two, Shape.rowMajor_val_four]
    show k.val * 8960 + n.val = ((k.val / 256 * 256 + k.val % 256) * 35 + n.val / 256) * 256 + n.val % 256
    omega
  · refine (broadcastTo_apply _ _ _ (ix4 ⟨k.val / 256, by omega⟩ 0 ⟨n.val / 256, by omega⟩ 0) fun a => ?_).trans ?_
    · match a with
      | ⟨0, _⟩ => rfl
      | ⟨1, _⟩ => rfl
      | ⟨2, _⟩ => rfl
      | ⟨3, _⟩ => rfl
    refine shapeCast_apply _ _ _ _ ?_
    rw [Shape.rowMajor_val_two, Shape.rowMajor_val_four]
    show k.val / 256 * 35 + n.val / 256 = ((k.val / 256 * 1 + 0) * 35 + n.val / 256) * 1 + 0
    omega

theorem pay1_eq (v : FVec Ideal S16384x20x256 .bf16) (w : Vec Ideal S5120x8960 .fp8e4m3) (s : Vec Ideal S20x35 .f32) :
    k0_pay1 v w s = truncf .bf16 (matmul dot_S16384x5120_S5120x8960_S16384x8960_1_0_0_1_n_n none
      (shapeCast S16384x5120 v shapeCasts_S16384x20x256_S16384x5120) (weights (extf .bf16 w bitsLt_fp8e4m3_bf16) (truncf .bf16 s bitsLt_bf16_f32))
      (constant S16384x8960 .f32 0x00000000#32)) bitsLt_bf16_f32 := rfl

/-- A product of matrices, at an element. -/
theorem product_apply (a : FVec Ideal S16384x5120 .bf16) (b : FVec Ideal S5120x8960 .bf16) (r : Fin 16384) (n : Fin 8960) :
    matmul dot_S16384x5120_S5120x8960_S16384x8960_1_0_0_1_n_n none a b (constant (F := Ideal) S16384x8960 .f32 0x00000000#32) (ix2 r n)
      = (0 + ∑ k : Fin 5120, a (ix2 r k) * b (ix2 k n) : EReal) := by
  have h := Ideal.matmul_apply₁_of dot_S16384x5120_S5120x8960_S16384x8960_1_0_0_1_n_n (K := 5120) rfl rfl a b
    (fun _ => Ideal.ofBits .f32 0x00000000#32) (ix2 r n) (fun k => ix2 r k) (fun k => ix2 k n)
    (fun k => funext fun a => Fin.ext (by
      match a with
      | ⟨0, _⟩ => rfl
      | ⟨1, _⟩ => rfl))
    (fun k => funext fun a => Fin.ext (by
      match a with
      | ⟨0, _⟩ => rfl
      | ⟨1, _⟩ => rfl))
  refine Eq.trans h ?_
  rw [zero_bits]

/-- The product. -/
theorem pay1_apply (x : Vec Ideal S16384x5120 .bf16) (w : Vec Ideal S5120x8960 .fp8e4m3) (s : Vec Ideal S20x35 .f32) (r : Fin 16384) (n : Fin 8960) :
    k0_pay1 (k0_pay6 x) w s (ix2 r n) = (0 + ∑ k : Fin 5120,
      (k0_pay5 x (ix2 r k) * k0_pay4 x (ix2 ⟨r.val / 128, by omega⟩ ⟨k.val / 256, by omega⟩))
        * (w (ix2 k n) * s (ix2 ⟨k.val / 256, by omega⟩ ⟨n.val / 256, by omega⟩)) : EReal) := by
  refine (congrFun (pay1_eq _ w s) _).trans ((truncf_at (ψ := .bf16) _ bitsLt_bf16_f32 _).trans ((product_apply _ _ r n).trans ?_))
  refine congrArg (fun a : EReal => 0 + a) (Finset.sum_congr rfl fun k _ => ?_)
  refine congrArg₂ (fun a b : EReal => a * b) (pay6_apply x r k) ((weights_apply _ _ k n).trans ?_)
  exact congrArg₂ (fun a b : EReal => a * b) (extf_at (ψ := .bf16) w bitsLt_fp8e4m3_bf16 _) (truncf_at (ψ := .bf16) s bitsLt_bf16_f32 _)

end Cert.ReferenceIdeal.Hand
end
-- ==== Proof.Tie.lean ====
/- The kernel's three results are the reference's, over the extended reals, when every block of `x` is zero, holds an
   infinity, or has a scale that is a normal number. -/
module

public import proofs.«01_k».proof.Proof.RefValue

@[expose] public section

set_option maxRecDepth 16384

noncomputable section

namespace Cert.Tie

open Idealize.ShloMosaic Cert.Exponent
open Cert.KernelIdeal (S16384x5120 S5120x8960 S20x35 S16384x8960 S128x20 S128x256 S1x5120x256 S1x256x256 S256x256 S1x1024x5120 S1024x5120 S5120x256 S1024x256)
open Cert.KernelIdeal.Hand (xb bv bv_max scaleG codesG yG waCol xaHalf bScale_apply bCodes_apply bXa_apply bCodes)
open Cert.ReferenceIdeal.Hand (amax amax_max mulf_at extf_at truncf_at)

/-- Every block's scaled maximum is zero, infinite, or a normal number below `2 ^ 126`. -/
def InRange (X : Vec Ideal S16384x5120 .bf16) : Prop :=
  ∀ i, amax X i * inv448 = 0 ∨ amax X i * inv448 = ⊤ ∨ (Cert.Exponent.T 1 ≤ amax X i * inv448 ∧ amax X i * inv448 < Cert.Exponent.T 253)

variable {X : Vec Ideal S16384x5120 .bf16} (hX : InRange X) (W : Vec Ideal S5120x8960 .fp8e4m3) (S : Vec Ideal S20x35 .f32)

/-- A block's element is the matrix's. -/
theorem xb_apply (X : Vec Ideal S16384x5120 .bf16) (B g : ℕ) (hB : B < 128) (hg : g < 20) (r : Fin 128) (c : Fin 256) :
    xb X B g (ix2 r c) = X (ix2 ⟨128 * B + r.val, by omega⟩ ⟨256 * g + c.val, by omega⟩) := by
  have e0 : (128 * B + r.val) % 16384 = 128 * B + r.val := by omega
  have e1 : (256 * g + c.val) % 5120 = 256 * g + c.val := by omega
  show X (ix2 ⟨(128 * B + r.val) % 16384, _⟩ ⟨(256 * g + c.val) % 5120, _⟩) = _
  simp only [e0, e1]

/-- Both programs read a block's exponent off the same number, -/
theorem bv_eq (X : Vec Ideal S16384x5120 .bf16) (B g : ℕ) (hB : B < 128) (hg : g < 20) :
    ∃ M, IsMax M (fun r c => X (ix2 ⟨128 * B + r.val, by omega⟩ ⟨256 * g + c.val, by omega⟩))
      ∧ bv (xb X B g) = M * inv448 ∧ amax X (ix2 ⟨B, hB⟩ ⟨g, hg⟩) = M := by
  obtain ⟨M, h, e⟩ := bv_max (xb X B g)
  have h' : IsMax M (fun r c => X (ix2 ⟨128 * B + r.val, by omega⟩ ⟨256 * g + c.val, by omega⟩)) := by
    have : (fun r c => xb X B g (ix2 r c)) = (fun (r : Fin 128) (c : Fin 256) => X (ix2 ⟨128 * B + r.val, by omega⟩ ⟨256 * g + c.val, by omega⟩)) :=
      funext fun r => funext fun c => xb_apply X B g hB hg r c
    exact this ▸ h
  exact ⟨M, h', e, (amax_max X ⟨B, hB⟩ ⟨g, hg⟩).unique h'⟩

include hX in
/-- and find the same scale and the same inverse. -/
theorem scales_agree (B g : ℕ) (hB : B < 128) (hg : g < 20) :
    kscale (bv (xb X B g)) = Ideal.exp2 (rexp (amax X (ix2 ⟨B, hB⟩ ⟨g, hg⟩)) (amax X (ix2 ⟨B, hB⟩ ⟨g, hg⟩) * inv448))
    ∧ kinv (bv (xb X B g)) = Ideal.exp2 (0 - rexp (amax X (ix2 ⟨B, hB⟩ ⟨g, hg⟩)) (amax X (ix2 ⟨B, hB⟩ ⟨g, hg⟩) * inv448)) := by
  obtain ⟨M, h, e, e'⟩ := bv_eq X B g hB hg
  have hr := hX (ix2 ⟨B, hB⟩ ⟨g, hg⟩)
  rw [e'] at hr
  rw [e, e']
  exact agree M _ (scaled_zero M) (scaled_top M) hr

include hX in
/-- The scales. -/
theorem scale_eq : scaleG X = Cert.ReferenceIdeal.Gen.k0_pay4 X := by
  funext y
  have y0 : (y 0).val < 128 := (y 0).isLt
  have y1 : (y 1).val < 20 := (y 1).isLt
  have ey : ix2 ⟨(y 0).val, y0⟩ ⟨(y 1).val, y1⟩ = (y : S128x20.Idx) := by
    funext a
    match a with
    | ⟨0, _⟩ => rfl
    | ⟨1, _⟩ => rfl
  unfold scaleG
  rw [bScale_apply, (scales_agree hX _ _ y0 y1).1, ey]
  exact (Cert.ReferenceIdeal.Hand.pay4_apply X y).symm

include hX in
/-- A block's codes are the reference's. -/
theorem block_codes (r : Fin 16384) (k : Fin 5120) :
    bCodes (xb X (r.val / 128) (k.val / 256)) (ix2 ⟨r.val % 128, Nat.mod_lt _ (by decide)⟩ ⟨k.val % 256, Nat.mod_lt _ (by decide)⟩)
      = Cert.ReferenceIdeal.Gen.k0_pay5 X (ix2 r k) := by
  have r0 : r.val / 128 < 128 := by omega
  have k0 : k.val / 256 < 20 := by omega
  rw [bCodes_apply, (scales_agree hX _ _ r0 k0).2, xb_apply X _ _ r0 k0]
  refine Eq.trans ?_ (Cert.ReferenceIdeal.Hand.pay5_apply X r k).symm
  have e0 : 128 * (r.val / 128) + r.val % 128 = r.val := by omega
  have e1 : 256 * (k.val / 256) + k.val % 256 = k.val := by omega
  simp only [e0, e1]

include hX in
/-- The codes. -/
theorem codes_eq : codesG X = Cert.ReferenceIdeal.Gen.k0_pay5 X := by
  funext y
  have ey : ix2 (y 0) (y 1) = (y : S16384x5120.Idx) := by
    funext a
    match a with
    | ⟨0, _⟩ => rfl
    | ⟨1, _⟩ => rfl
  exact (block_codes hX (y 0) (y 1)).trans (congrArg (Cert.ReferenceIdeal.Gen.k0_pay5 X) ey)

/-- The kernel's product of a row block and a column block. -/
theorem kernel_product (a : Vec Ideal S1x1024x5120 .bf16) (b : Vec Ideal S1x5120x256 .bf16) (r : Fin 1024) (n : Fin 256) :
    Cert.KernelIdeal.Gen.k0_pay2 (Cert.KernelIdeal.Gen.k0_pay584 a) b (ix2 r n)
      = (0 + ∑ k : Fin 5120, a (ix3 0 r k) * b (ix3 0 k n) : EReal) := by
  have h := Ideal.matmul_apply₁_of Cert.KernelIdeal.dot_S1024x5120_S5120x256_S1024x256_1_0_0_1_n_n (K := 5120) rfl rfl
    (shapeCast S1024x5120 a Cert.KernelIdeal.Gen.facts.shapeCasts_S1x1024x5120_S1024x5120) (shapeCast S5120x256 b Cert.KernelIdeal.Gen.facts.shapeCasts_S1x5120x256_S5120x256)
    (fun _ => Ideal.ofBits .f32 0x00000000#32) (ix2 r n) (fun k => ix2 r k) (fun k => ix2 k n)
    (fun k => funext fun a => Fin.ext (by
      match a with
      | ⟨0, _⟩ => rfl
      | ⟨1, _⟩ => rfl))
    (fun k => funext fun a => Fin.ext (by
      match a with
      | ⟨0, _⟩ => rfl
      | ⟨1, _⟩ => rfl))
  refine Eq.trans h ?_
  rw [Cert.ReferenceIdeal.Hand.zero_bits]
  refine congrArg (fun a : EReal => 0 + a) (Finset.sum_congr rfl fun k _ => congrArg₂ (fun a b : EReal => a * b) ?_ ?_)
  · refine shapeCast_apply _ _ _ _ ?_
    rw [Shape.rowMajor_val_two, Shape.rowMajor_val_three]
    show (0 * 1024 + r.val) * 5120 + k.val = r.val * 5120 + k.val
    omega
  · refine shapeCast_apply _ _ _ _ ?_
    rw [Shape.rowMajor_val_two, Shape.rowMajor_val_three]
    show (0 * 5120 + k.val) * 256 + n.val = k.val * 256 + n.val
    omega

/-- A block of the weights at its scale. -/
theorem weight_block (s : EReal) (w : Vec Ideal S256x256 .fp8e4m3) (r c : Fin 256) :
    Cert.KernelIdeal.Gen.k0_pay407 (F := Ideal) s w (ix3 0 r c) = (w (ix2 r c) * s : EReal) := by
  unfold Cert.KernelIdeal.Gen.k0_pay407
  refine (shapeCast_apply _ _ _ (ix2 r c) ?_).trans rfl
  rw [Shape.rowMajor_val_two, Shape.rowMajor_val_three]
  show r.val * 256 + c.val = (0 * 256 + r.val) * 256 + c.val
  omega

/-- A column block of the weights at their scales. -/
theorem waCol_apply (n : Fin 8960) (k : Fin 5120) :
    waCol W S (n.val / 256) (ix3 0 k ⟨n.val % 256, Nat.mod_lt _ (by decide)⟩)
      = (W (ix2 k n) * S (ix2 ⟨k.val / 256, by omega⟩ ⟨n.val / 256, by omega⟩) : EReal) := by
  have h := weight_block (S (ix2 ⟨(k.val / 256) % 20, Nat.mod_lt _ (by decide)⟩ ⟨(n.val / 256) % 35, Nat.mod_lt _ (by decide)⟩))
    (fun x => W (ix2 ⟨(256 * (k.val / 256) + (x 0).val) % 5120, Nat.mod_lt _ (by decide)⟩ ⟨(256 * (n.val / 256) + (x 1).val) % 8960, Nat.mod_lt _ (by decide)⟩))
    ⟨k.val % 256, Nat.mod_lt _ (by decide)⟩ ⟨n.val % 256, Nat.mod_lt _ (by decide)⟩
  refine Eq.trans h ?_
  have e0 : (k.val / 256) % 20 = k.val / 256 := by omega
  have e1 : (n.val / 256) % 35 = n.val / 256 := by omega
  have e2 : (256 * (k.val / 256) + k.val % 256) % 5120 = k.val := by omega
  have e3 : (256 * (n.val / 256) + n.val % 256) % 8960 = n.val := by omega
  simp only [ix2_0, ix2_1, e0, e1, e2, e3]

include hX in
/-- A row block of the codes at their scales. -/
theorem xaHalf_apply (r : Fin 16384) (k : Fin 5120) :
    xaHalf X (r.val / 1024) (ix3 0 ⟨r.val % 1024, Nat.mod_lt _ (by decide)⟩ k)
      = (Cert.ReferenceIdeal.Gen.k0_pay5 X (ix2 r k) * Cert.ReferenceIdeal.Gen.k0_pay4 X (ix2 ⟨r.val / 128, by omega⟩ ⟨k.val / 256, by omega⟩) : EReal) := by
  have r0 : r.val / 128 < 128 := by omega
  have k0 : k.val / 256 < 20 := by omega
  have h := bXa_apply (xb X (8 * (r.val / 1024) + r.val % 1024 / 128) (k.val / 256)) ⟨r.val % 1024 % 128, Nat.mod_lt _ (by decide)⟩ ⟨k.val % 256, Nat.mod_lt _ (by decide)⟩
  refine Eq.trans h ?_
  have e0 : 8 * (r.val / 1024) + r.val % 1024 / 128 = r.val / 128 := by omega
  have e1 : r.val % 1024 % 128 = r.val % 128 := by omega
  simp only [e0, e1]
  rw [block_codes hX, (scales_agree hX _ _ r0 k0).1]
  exact congrArg (fun a : EReal => Cert.ReferenceIdeal.Gen.k0_pay5 X (ix2 r k) * a) (Cert.ReferenceIdeal.Hand.pay4_apply X _).symm

include hX in
/-- The products. -/
theorem y_eq : yG X W S = Cert.ReferenceIdeal.Gen.k0_pay1 (Cert.ReferenceIdeal.Gen.k0_pay6 X) W S := by
  funext y
  have ey : ix2 (y 0) (y 1) = (y : S16384x8960.Idx) := by
    funext a
    match a with
    | ⟨0, _⟩ => rfl
    | ⟨1, _⟩ => rfl
  refine Eq.trans ?_ ((Cert.ReferenceIdeal.Hand.pay1_apply X W S (y 0) (y 1)).symm.trans (congrArg (Cert.ReferenceIdeal.Gen.k0_pay1 (Cert.ReferenceIdeal.Gen.k0_pay6 X) W S) ey))
  unfold yG
  refine (kernel_product _ _ _ _).trans ?_
  exact congrArg (fun a : EReal => 0 + a) (Finset.sum_congr rfl fun k _ =>
    congrArg₂ (fun a b : EReal => a * b) (xaHalf_apply hX (y 0) k) (waCol_apply W S (y 1) k))

end Cert.Tie
end
-- ==== Proof.Equal.lean ====
/- From launch to results: what the precondition says of the blocks of `x`, and the two runs side by side. -/
module

public import proofs.«01_k».proof.Proof.Tie
public import proofs.«01_k».proof.Proof.Gen.Pre_normal_scales
public import proofs.«01_k».proof.Defs

@[expose] public section

set_option maxRecDepth 16384

noncomputable section

namespace Cert.Tie

open Idealize.ShloMosaic Idealize.ShloMosaic.TcCoe Idealize.SL.Sem Cert.Exponent

attribute [local instance] Cert.KernelIdeal.Gen.facts Cert.ReferenceIdeal.Gen.facts Cert.Pre_normal_scales.Gen.facts

/-- The kernel's region reads `x` laid out as one matrix. -/
theorem kernel_x (m : (ℓ : Loc Cert.KernelIdeal.nD Cert.KernelIdeal.τ Cert.KernelIdeal.sig) → Buf (Elt Ideal) ℓ) (c : Dev Cert.KernelIdeal.nD) :
    Cert.KernelIdeal.Gen.V m c Cert.KernelIdeal.main_v0
      = shapeCast Cert.KernelIdeal.S16384x5120 (m ((c.tc : Thread Cert.KernelIdeal.nD Cert.KernelIdeal.τ).loc Cert.KernelIdeal.main_arg0)) Cert.KernelIdeal.Gen.facts.shapeCasts_S2x8192x5120_S16384x5120 := by
  show StableHlo.after Cert.KernelIdeal.Gen.hostOps0 (fun b => m (c, b)) (Proc.devRef .tc Cert.KernelIdeal.main_v0) = _
  rw [StableHlo.after_cons, StableHlo.after_nil, StableHlo.reshape_result]
  rfl

/-- A host reduction by maximum folds over the elements a kernel's does. -/
theorem reduce_eq {s t u : Shape} {axes : List (Fin s.rank)} (x : FVec Ideal s .f32) (h : s.Reduces axes t) (h' : s.ReducesTo axes t) (hu : 0 < u.numel)
    (hφ : FKind.Formats .f32) (hacc : 0xFF800000#32 = FKind.maximumf.neutral .f32 hφ) :
    Host.reduce FloatOps.maximumf x (constant (F := Ideal) u .f32 0xFF800000#32) h' hu = multiReduction .maximumf axes t x 0xFF800000#32 h hφ hacc := by
  funext j
  rw [Host.reduce_eq_fold, multiReduction_maximumf_eq_fold]
  rfl

/-- The precondition's test of a scaled maximum. -/
def test (v : EReal) : BitVec 1 :=
  IntOp.ori (IntOp.ori (Ideal.cmp .oeq v (Ideal.ofBits .f32 0x00000000#32)) (Ideal.cmp .oeq v (Ideal.ofBits .f32 0x7F800000#32)))
    (IntOp.andi (Ideal.cmp .oge v (Ideal.ofBits .f32 0x00800000#32)) (Ideal.cmp .olt v (Ideal.ofBits .f32 0x7E800000#32)))

theorem of_test (v : EReal) (h : test v = 1#1) : v = 0 ∨ v = ⊤ ∨ (Cert.Exponent.T 1 ≤ v ∧ v < Cert.Exponent.T 253) := by
  have e : test v = IntOp.ori (IntOp.ori (Ideal.cmp .oeq v (Ideal.ofBits .f32 0x00000000#32)) (Ideal.cmp .oeq v (Cert.Exponent.T 255)))
    (IntOp.andi (Ideal.cmp .oge v (Cert.Exponent.T 1)) (Ideal.cmp .olt v (Cert.Exponent.T 253))) := rfl
  rw [e, T_top, Ideal.ofBits_zero_f32] at h
  by_contra hn
  rw [not_or, not_or, not_and_or] at hn
  revert h
  rcases hn with ⟨h0, ht, hb | hb⟩
  · simp [Ideal.cmp, IntOp.ori, IntOp.andi, h0, ht, hb]
  · simp [Ideal.cmp, IntOp.ori, IntOp.andi, h0, ht, hb]

/-- The blocks' largest magnitudes, as the precondition finds them, -/
def hostMax (a : FVec Ideal Cert.Pre_normal_scales.S2x8192x5120 .f32) : FVec Ideal Cert.Pre_normal_scales.S128x20 .f32 :=
  Host.reduce FloatOps.maximumf (Host.absf (shapeCast Cert.Pre_normal_scales.S128x128x20x256 a Cert.Pre_normal_scales.Gen.facts.shapeCasts_S2x8192x5120_S128x128x20x256))
    (constant (F := Ideal) Cert.Pre_normal_scales.S_ .f32 0xFF800000#32) Cert.Pre_normal_scales.Gen.facts.reducesTo_S128x128x20x256_S128x20_d1_3 Cert.Pre_normal_scales.Gen.facts.h_S_

theorem absf_eq {s : Shape} (x : FVec Ideal s .f32) : Host.absf x = absf x := rfl

/-- are those of the matrix. -/
theorem hostMax_eq (a : FVec Ideal Cert.Pre_normal_scales.S2x8192x5120 .f32) :
    hostMax a = Cert.ReferenceIdeal.Hand.amax (shapeCast Cert.KernelIdeal.S16384x5120 a Cert.KernelIdeal.Gen.facts.shapeCasts_S2x8192x5120_S16384x5120) := by
  unfold hostMax Cert.ReferenceIdeal.Hand.amax
  rw [shapeCast_comp, absf_eq]
  exact reduce_eq _ _ _ _ _ _

/-- The precondition, part by part. -/
def scaled (a : FVec Ideal Cert.Pre_normal_scales.S128x20 .f32) : FVec Ideal Cert.Pre_normal_scales.S128x20 .f32 :=
  mulf a (broadcastInDim Cert.Pre_normal_scales.S128x20 ![] Cert.Pre_normal_scales.Gen.facts.bcast_S_S128x20 (constant (F := Ideal) Cert.Pre_normal_scales.S_ .f32 0x3B124925#32))
def level (w : BitVec 32) : FVec Ideal Cert.Pre_normal_scales.S128x20 .f32 :=
  broadcastInDim Cert.Pre_normal_scales.S128x20 ![] Cert.Pre_normal_scales.Gen.facts.bcast_S_S128x20 (constant (F := Ideal) Cert.Pre_normal_scales.S_ .f32 w)
def tested (v : FVec Ideal Cert.Pre_normal_scales.S128x20 .f32) : IVec Cert.Pre_normal_scales.S128x20 1 :=
  ori (ori (cmpf .oeq v (level 0x00000000#32)) (cmpf .oeq v (level 0x7F800000#32))) (andi (cmpf .oge v (level 0x00800000#32)) (cmpf .olt v (level 0x7E800000#32)))
theorem tested_apply (a : FVec Ideal Cert.Pre_normal_scales.S128x20 .f32) (i) : tested (scaled a) i = test (a i * inv448) := rfl

theorem widen_eq {s : Shape} (a : FVec Ideal s .bf16) (h) : (extf .f32 a h : FVec Ideal s .f32) = a := rfl

theorem pre_eq (a0 : FVec Ideal Cert.Pre_normal_scales.S2x8192x5120 .bf16) (a1 a2) :
    Cert.Pre_normal_scales.fn (F := Ideal) a0 a1 a2 = tested (scaled (hostMax (extf .f32 a0 Cert.Pre_normal_scales.Gen.facts.bitsLt_bf16_f32))) := rfl

/-- What the precondition says of the launched argument holds of the matrix the region reads. -/
theorem inRange (m : (ℓ : Loc Cert.KernelIdeal.nD Cert.KernelIdeal.τ Cert.KernelIdeal.sig) → Buf (Elt Ideal) ℓ) (h : Cert.Pre_KernelIdeal_normal_scales m) (c : Dev Cert.KernelIdeal.nD) :
    InRange (Cert.KernelIdeal.Gen.V m c Cert.KernelIdeal.main_v0) := by
  intro i
  rw [kernel_x]
  have hi := congrFun ((pre_eq _ _ _).symm.trans (h c)) i
  rw [tested_apply, widen_eq, hostMax_eq] at hi
  exact of_test _ hi

/-- The two programs' runs end in equal results. -/
theorem algebraic : Cert.algebraic_KernelIdeal_ReferenceIdeal_pre_normal_scales := by
  intro m g m' g' hpre hargs
  have hx : ∀ c, Cert.ReferenceIdeal.Gen.V m' c Cert.ReferenceIdeal.main_v0 = Cert.KernelIdeal.Gen.V m c Cert.KernelIdeal.main_v0 := fun c => by
    rw [Cert.ReferenceIdeal.Hand.V_main_v0, kernel_x, (hargs c).1]
  have h1 : ∀ c, Cert.ReferenceIdeal.Gen.V m' c Cert.ReferenceIdeal.main_arg1 = Cert.KernelIdeal.Gen.V m c Cert.KernelIdeal.main_arg1 := fun c => by
    rw [Cert.ReferenceIdeal.Gen.V_main_arg1, Cert.KernelIdeal.Gen.V_main_arg1, (hargs c).2.1]
  have h2 : ∀ c, Cert.ReferenceIdeal.Gen.V m' c Cert.ReferenceIdeal.main_arg2 = Cert.KernelIdeal.Gen.V m c Cert.KernelIdeal.main_arg2 := fun c => by
    rw [Cert.ReferenceIdeal.Gen.V_main_arg2, Cert.KernelIdeal.Gen.V_main_arg2, (hargs c).2.2]
  refine ⟨fun c => Cert.KernelIdeal.Hand.yG (Cert.KernelIdeal.Hand.XA m c) (Cert.KernelIdeal.Gen.V m c Cert.KernelIdeal.main_arg1) (Cert.KernelIdeal.Gen.V m c Cert.KernelIdeal.main_arg2),
    fun c => Cert.KernelIdeal.Hand.codesG (Cert.KernelIdeal.Hand.XA m c), fun c => Cert.KernelIdeal.Hand.scaleG (Cert.KernelIdeal.Hand.XA m c),
    Cert.KernelIdeal.Hand.run_values m g, (θ_run _ _ _).mono (fun r hr c => ?_) (Cert.ReferenceIdeal.Hand.run_values m' g')⟩
  obtain ⟨r0, r1, r2, a0, a1, a2⟩ := hr c
  refine ⟨r0.trans ?_, r1.trans ?_, r2.trans ?_, a0, a1, a2⟩
  · rw [hx, h1, h2]
    exact (y_eq (inRange m hpre c) _ _).symm
  · rw [hx]
    exact (codes_eq (inRange m hpre c)).symm
  · rw [hx]
    exact (scale_eq (inRange m hpre c)).symm

end Cert.Tie
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.Kernel.Frame
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_normal_scales
public import proofs.«01_k».proof.Proof.Same
public import proofs.«01_k».proof.Proof.Body
public import proofs.«01_k».proof.Proof.Equal
public import Idealize.ShloMosaic.Adequacy
public import Idealize.ShloMosaic.Init

@[expose] public section

noncomputable section

namespace Cert.Proof

open Idealize.ShloMosaic Idealize.SL.Sem Cert.Kernel

attribute [local instance] Cert.Kernel.Gen.facts Cert.KernelIdeal.Gen.facts

/-- The kernel's frame, from its idealization's: the programs are the same text. -/
theorem frame_kernel (m : (ℓ : Loc nD τ sig) → Buf (Elt Bits) ℓ) (g : Dev nD → PrngReg) :
    θ_run defs (onTc (τ := τ) (main (F := Bits))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  Eq.subst (motive := fun D => θ_run D (onTc (τ := τ) (main (F := Bits))) ⟨m, fun _ => 0, g⟩ _) Cert.Same.defs_eq.symm
    (Cert.KernelIdeal.Hand.frame (F := Bits) m g)

theorem claim : Cert.Claim := ⟨Cert.Kernel.Gen.facts, Cert.KernelIdeal.Gen.facts, Cert.ReferenceIdeal.Gen.facts, Cert.Pre_normal_scales.Gen.facts,
  fun m g _ => frame_kernel m g, fun m g _ => Cert.KernelIdeal.Hand.frame m g, fun m g _ => Cert.KernelIdeal.Hand.frame m g,
  fun m g _ => Cert.ReferenceIdeal.Gen.frame m g, fun m g _ => Cert.ReferenceIdeal.Gen.frame m g, trivial, Cert.Tie.algebraic⟩

end Cert.Proof

end
